-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x4x32x128 : Shape := ⟨4, ![4, 4, 32, 128]⟩
abbrev S4x4x4x128 : Shape := ⟨4, ![4, 4, 4, 128]⟩
abbrev S4x131072x4x128 : Shape := ⟨4, ![4, 131072, 4, 128]⟩
abbrev S4 : Shape := ⟨1, ![4]⟩
abbrev S8 : Shape := ⟨1, ![8]⟩
abbrev S_ : Shape := ⟨0, ![]⟩

class Facts : Prop where
  concatenates_S4_S4_S8_d0 : Shape.Concatenates [S4, S4] S8 0
  bcast_S_S4 : S_.BroadcastsInDim S4 (![] : Fin 0 → Fin S4.rank)
  reducesTo_S4_S_d0 : S4.ReducesTo [0] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S4x4x32x128 .bf16) (main_arg1 : FVec F S4x4x4x128 .bf16) (main_arg2 : FVec F S4x4x4x128 .bf16) (main_arg3 : FVec F S4x131072x4x128 .fp8e4m3) (main_arg4 : FVec F S4x131072x4x128 .fp8e4m3) (main_arg5 : IVec S4 32) (main_arg6 : IVec S4 32) (main_arg7 : IVec S4 32) : IVec S_ 1 :=
  let main_v0 : IVec S8 32 := (fun a b => concatenate S8 0 [⟨S4, a⟩, ⟨S4, b⟩] concatenates_S4_S4_S8_d0) main_arg6 main_arg7
  let main_c : IVec S_ 32 := constantI S_ 32 1024#32
  let main_v1 : IVec S4 32 := broadcastInDim S4 ![] bcast_S_S4 main_c
  let main_v2 : IVec S4 1 := cmpi .sge main_arg5 main_v1
  let main_c_0 : IVec S_ 1 := constantI S_ 1 1#1
  let main_v3 : IVec S_ 1 := (fun x v => Host.reduce IntOp.andi x v reducesTo_S4_S_d0 h_S_) main_v2 main_c_0
  let main_c_1 : IVec S_ 32 := constantI S_ 32 131072#32
  let main_v4 : IVec S4 32 := broadcastInDim S4 ![] bcast_S_S4 main_c_1
  let main_v5 : IVec S4 1 := cmpi .sle main_arg5 main_v4
  let main_c_2 : IVec S_ 1 := constantI S_ 1 1#1
  let main_v6 : IVec S_ 1 := (fun x v => Host.reduce IntOp.andi x v reducesTo_S4_S_d0 h_S_) main_v5 main_c_2
  let main_v7 : IVec S_ 1 := andi main_v3 main_v6
  let main_c_3 : IVec S_ 32 := constantI S_ 32 4294967170#32
  let main_v8 : IVec S8 32 := broadcastInDim S8 ![] bcast_S_S8 main_c_3
  let main_v9 : IVec S8 1 := cmpi .sge main_v0 main_v8
  let main_c_4 : IVec S_ 1 := constantI S_ 1 1#1
  let main_v10 : IVec S_ 1 := (fun x v => Host.reduce IntOp.andi x v reducesTo_S8_S_d0 h_S_) main_v9 main_c_4
  let main_v11 : IVec S_ 1 := andi main_v7 main_v10
  let main_c_5 : IVec S_ 32 := constantI S_ 32 126#32
  let main_v12 : IVec S8 32 := broadcastInDim S8 ![] bcast_S_S8 main_c_5
  let main_v13 : IVec S8 1 := cmpi .sle main_v0 main_v12
  let main_c_6 : IVec S_ 1 := constantI S_ 1 1#1
  let main_v14 : IVec S_ 1 := (fun x v => Host.reduce IntOp.andi x v reducesTo_S8_S_d0 h_S_) main_v13 main_c_6
  let main_v15 : IVec S_ 1 := andi main_v11 main_v14
  main_v15
-- ==== Kernel.lean ====
abbrev S4x4x32x128 : Shape := ⟨4, ![4, 4, 32, 128]⟩
abbrev S4x4x4x128 : Shape := ⟨4, ![4, 4, 4, 128]⟩
abbrev S4x131072x4x128 : Shape := ⟨4, ![4, 131072, 4, 128]⟩
abbrev S4 : Shape := ⟨1, ![4]⟩
abbrev S4x1024x4x128 : Shape := ⟨4, ![4, 1024, 4, 128]⟩
abbrev S3 : Shape := ⟨1, ![3]⟩
abbrev S1 : Shape := ⟨1, ![1]⟩
abbrev S_ : Shape := ⟨0, ![]⟩
abbrev S1x1024x4x128 : Shape := ⟨4, ![1, 1024, 4, 128]⟩
abbrev S1024x4x128 : Shape := ⟨3, ![1024, 4, 128]⟩
abbrev S4x8x128 : Shape := ⟨3, ![4, 8, 128]⟩
abbrev S1x4x4x128 : Shape := ⟨4, ![1, 4, 4, 128]⟩
abbrev S4x4x128 : Shape := ⟨3, ![4, 4, 128]⟩
abbrev S4x1x4x128 : Shape := ⟨4, ![4, 1, 4, 128]⟩
abbrev S4x3x4x128 : Shape := ⟨4, ![4, 3, 4, 128]⟩
abbrev S16x4x128 : Shape := ⟨3, ![16, 4, 128]⟩
abbrev S32x4x128 : Shape := ⟨3, ![32, 4, 128]⟩
abbrev S32x1x128 : Shape := ⟨3, ![32, 1, 128]⟩
abbrev S32x128 : Shape := ⟨2, ![32, 128]⟩
abbrev S1x4x16x128 : Shape := ⟨4, ![1, 4, 16, 128]⟩
abbrev S4x16x128 : Shape := ⟨3, ![4, 16, 128]⟩
abbrev S64x128 : Shape := ⟨2, ![64, 128]⟩
abbrev S64x256 : Shape := ⟨2, ![64, 256]⟩
abbrev S32x256 : Shape := ⟨2, ![32, 256]⟩
abbrev S96x256 : Shape := ⟨2, ![96, 256]⟩
abbrev S128x256 : Shape := ⟨2, ![128, 256]⟩
abbrev S4x256x4x128 : Shape := ⟨4, ![4, 256, 4, 128]⟩
abbrev S256x4x4x128 : Shape := ⟨4, ![256, 4, 4, 128]⟩
abbrev S1024x1x128 : Shape := ⟨3, ![1024, 1, 128]⟩
abbrev S1024x128 : Shape := ⟨2, ![1024, 128]⟩
abbrev S1024x256 : Shape := ⟨2, ![1024, 256]⟩
abbrev S64x1024 : Shape := ⟨2, ![64, 1024]⟩
abbrev S4x2x8x1024 : Shape := ⟨4, ![4, 2, 8, 1024]⟩
abbrev S4x2x8x128 : Shape := ⟨4, ![4, 2, 8, 128]⟩
abbrev S4x1x8x128 : Shape := ⟨4, ![4, 1, 8, 128]⟩
abbrev S4x1x8x896 : Shape := ⟨4, ![4, 1, 8, 896]⟩
abbrev S4x8x896 : Shape := ⟨3, ![4, 8, 896]⟩
abbrev S4x8x1024 : Shape := ⟨3, ![4, 8, 1024]⟩
abbrev S4x8 : Shape := ⟨2, ![4, 8]⟩
abbrev S4x8x1 : Shape := ⟨3, ![4, 8, 1]⟩
abbrev S4x1x8x1024 : Shape := ⟨4, ![4, 1, 8, 1024]⟩
abbrev S4x2x8x256 : Shape := ⟨4, ![4, 2, 8, 256]⟩

abbrev nBuf : Space → Nat
  | .hbm => 13
  | .vmem => 8
  | .smem => 5
  | _ => 0

abbrev bufTy : (tb : Table) → Fin (tcTables nBuf tb) → BufTy
  | .hbm, ⟨0, _⟩ => ⟨S4x4x32x128, .bf16⟩
  | .hbm, ⟨1, _⟩ => ⟨S4x4x4x128, .bf16⟩
  | .hbm, ⟨2, _⟩ => ⟨S4x4x4x128, .bf16⟩
  | .hbm, ⟨3, _⟩ => ⟨S4x131072x4x128, .fp8e4m3⟩
  | .hbm, ⟨4, _⟩ => ⟨S4x131072x4x128, .fp8e4m3⟩
  | .hbm, ⟨5, _⟩ => ⟨S4, .i32⟩
  | .hbm, ⟨6, _⟩ => ⟨S4, .i32⟩
  | .hbm, ⟨7, _⟩ => ⟨S4, .i32⟩
  | .hbm, ⟨8, _⟩ => ⟨S4x4x32x128, .bf16⟩
  | .hbm, ⟨9, _⟩ => ⟨S4x4x4x128, .fp8e4m3⟩
  | .hbm, ⟨10, _⟩ => ⟨S4, .f32⟩
  | .hbm, ⟨11, _⟩ => ⟨S4x4x4x128, .fp8e4m3⟩
  | .hbm, ⟨12, _⟩ => ⟨S4, .f32⟩
  | .local _ .vmem, ⟨0, _⟩ => ⟨S4x4x32x128, .bf16⟩
  | .local _ .vmem, ⟨1, _⟩ => ⟨S4x4x4x128, .fp8e4m3⟩
  | .local _ .vmem, ⟨2, _⟩ => ⟨S4x4x4x128, .fp8e4m3⟩
  | .local _ .vmem, ⟨3, _⟩ => ⟨S4x1024x4x128, .fp8e4m3⟩
  | .local _ .vmem, ⟨4, _⟩ => ⟨S4x1024x4x128, .fp8e4m3⟩
  | .local _ .vmem, ⟨5, _⟩ => ⟨S4x4x32x128, .bf16⟩
  | .local _ .vmem, ⟨6, _⟩ => ⟨S4x4x4x128, .bf16⟩
  | .local _ .vmem, ⟨7, _⟩ => ⟨S4x4x4x128, .bf16⟩
  | .local _ .smem, ⟨0, _⟩ => ⟨S4, .i32⟩
  | .local _ .smem, ⟨1, _⟩ => ⟨S4, .i32⟩
  | .local _ .smem, ⟨2, _⟩ => ⟨S4, .i32⟩
  | .local _ .smem, ⟨3, _⟩ => ⟨S4, .f32⟩
  | .local _ .smem, ⟨4, _⟩ => ⟨S4, .f32⟩
  | _, _ => ⟨S4x4x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg3_0 : Ref sig .tc := ⟨.vmem, 0, rfl⟩
abbrev cc0_stg4_0 : Ref sig .tc := ⟨.vmem, 1, rfl⟩
abbrev cc0_stg6_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg5_0 : Ref sig .tc := ⟨.smem, 3, rfl⟩
abbrev cc0_stg7_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

def k0_off1 (v0 : BitVec 32) : Fin 4 → Nat :=
  let c0_i32_26 : BitVec 32 := 0#32
  let c130048_i32 : BitVec 32 := 130048#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c130048_i32 v2
  let c0_i32_32 : BitVec 32 := 0#32
  let c0_i32_33 : BitVec 32 := 0#32
  ![0, v3.toNat, 0, 0]

def k0_off2 (v4 : BitVec 32) : Fin 4 → Nat :=
  let c1_i32_34 : BitVec 32 := 1#32
  let c130048_i32_2 : BitVec 32 := 130048#32
  let c0_i32_1 : BitVec 32 := 0#32
  let c1024_i32_0 : BitVec 32 := 1024#32
  let v5 : BitVec 32 := Scalar.subi v4 c1024_i32_0
  let v6 : BitVec 32 := Scalar.maxsi c0_i32_1 v5
  let v7 : BitVec 32 := Scalar.minsi c130048_i32_2 v6
  let c0_i32_40 : BitVec 32 := 0#32
  let c0_i32_41 : BitVec 32 := 0#32
  ![1, v7.toNat, 0, 0]

def k0_off3 (v8 : BitVec 32) : Fin 4 → Nat :=
  let c2_i32_42 : BitVec 32 := 2#32
  let c130048_i32_5 : BitVec 32 := 130048#32
  let c0_i32_4 : BitVec 32 := 0#32
  let c1024_i32_3 : BitVec 32 := 1024#32
  let v9 : BitVec 32 := Scalar.subi v8 c1024_i32_3
  let v10 : BitVec 32 := Scalar.maxsi c0_i32_4 v9
  let v11 : BitVec 32 := Scalar.minsi c130048_i32_5 v10
  let c0_i32_48 : BitVec 32 := 0#32
  let c0_i32_49 : BitVec 32 := 0#32
  ![2, v11.toNat, 0, 0]

def k0_off4 (v12 : BitVec 32) : Fin 4 → Nat :=
  let c3_i32 : BitVec 32 := 3#32
  let c130048_i32_8 : BitVec 32 := 130048#32
  let c0_i32_7 : BitVec 32 := 0#32
  let c1024_i32_6 : BitVec 32 := 1024#32
  let v13 : BitVec 32 := Scalar.subi v12 c1024_i32_6
  let v14 : BitVec 32 := Scalar.maxsi c0_i32_7 v13
  let v15 : BitVec 32 := Scalar.minsi c130048_i32_8 v14
  let c0_i32_55 : BitVec 32 := 0#32
  let c0_i32_56 : BitVec 32 := 0#32
  ![3, v15.toNat, 0, 0]

def k0_off5 (v16 : BitVec 32) : Fin 4 → Nat :=
  let c0_i32_57 : BitVec 32 := 0#32
  let c130048_i32_12 : BitVec 32 := 130048#32
  let c0_i32_11 : BitVec 32 := 0#32
  let c1024_i32_10 : BitVec 32 := 1024#32
  let v17 : BitVec 32 := Scalar.subi v16 c1024_i32_10
  let v18 : BitVec 32 := Scalar.maxsi c0_i32_11 v17
  let v19 : BitVec 32 := Scalar.minsi c130048_i32_12 v18
  let c0_i32_63 : BitVec 32 := 0#32
  let c0_i32_64 : BitVec 32 := 0#32
  ![0, v19.toNat, 0, 0]

def k0_off6 (v20 : BitVec 32) : Fin 4 → Nat :=
  let c1_i32_65 : BitVec 32 := 1#32
  let c130048_i32_16 : BitVec 32 := 130048#32
  let c0_i32_15 : BitVec 32 := 0#32
  let c1024_i32_14 : BitVec 32 := 1024#32
  let v21 : BitVec 32 := Scalar.subi v20 c1024_i32_14
  let v22 : BitVec 32 := Scalar.maxsi c0_i32_15 v21
  let v23 : BitVec 32 := Scalar.minsi c130048_i32_16 v22
  let c0_i32_71 : BitVec 32 := 0#32
  let c0_i32_72 : BitVec 32 := 0#32
  ![1, v23.toNat, 0, 0]

def k0_off7 (v24 : BitVec 32) : Fin 4 → Nat :=
  let c2_i32_73 : BitVec 32 := 2#32
  let c130048_i32_20 : BitVec 32 := 130048#32
  let c0_i32_19 : BitVec 32 := 0#32
  let c1024_i32_18 : BitVec 32 := 1024#32
  let v25 : BitVec 32 := Scalar.subi v24 c1024_i32_18
  let v26 : BitVec 32 := Scalar.maxsi c0_i32_19 v25
  let v27 : BitVec 32 := Scalar.minsi c130048_i32_20 v26
  let c0_i32_79 : BitVec 32 := 0#32
  let c0_i32_80 : BitVec 32 := 0#32
  ![2, v27.toNat, 0, 0]

def k0_off8 (v28 : BitVec 32) : Fin 4 → Nat :=
  let c3_i32_81 : BitVec 32 := 3#32
  let c130048_i32_24 : BitVec 32 := 130048#32
  let c0_i32_23 : BitVec 32 := 0#32
  let c1024_i32_22 : BitVec 32 := 1024#32
  let v29 : BitVec 32 := Scalar.subi v28 c1024_i32_22
  let v30 : BitVec 32 := Scalar.maxsi c0_i32_23 v29
  let v31 : BitVec 32 := Scalar.minsi c130048_i32_24 v30
  let c0_i32_87 : BitVec 32 := 0#32
  let c0_i32_88 : BitVec 32 := 0#32
  ![3, v31.toNat, 0, 0]

def k0_chk8 (v28 : BitVec 32) : Prop :=
  (∀ a, (k0_off8 v28) a + S1x1024x4x128.size a ≤ S4x131072x4x128.size a) ∧
  (∀ (hinb : ∀ a, (k0_off8 v28) a + S1x1024x4x128.size a ≤ S4x131072x4x128.size a), (Rect.unit (s := S4x131072x4x128) (k0_off8 v28) S1x1024x4x128.size hinb).WholeWords (EltTy.packing .fp8e4m3))
theorem k0_off8_inb : ∀ (v28 : BitVec 32) (k0_hw8 : k0_chk8 v28), ∀ a, (k0_off8 v28) a + S1x1024x4x128.size a ≤ S4x131072x4x128.size a := fun v28 k0_hw8 => k0_hw8.1
theorem k0_off8_wordsfp8e4m3 : ∀ (v28 : BitVec 32) (k0_hw8 : k0_chk8 v28), (Rect.unit (s := S4x131072x4x128) (k0_off8 v28) S1x1024x4x128.size (k0_off8_inb v28 k0_hw8)).WholeWords (EltTy.packing .fp8e4m3) := fun v28 k0_hw8 => k0_hw8.2 (k0_off8_inb v28 k0_hw8)

def k0_off9 (v0 : BitVec 32) : Fin 4 → Nat :=
  let c0_i32_423 : BitVec 32 := 0#32
  let c130048_i32 : BitVec 32 := 130048#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c130048_i32 v2
  let c0_i32_429 : BitVec 32 := 0#32
  let c0_i32_430 : BitVec 32 := 0#32
  ![0, v3.toNat, 0, 0]

def k0_chk1 (v0 : BitVec 32) : Prop :=
  (∀ a, (k0_off1 v0) a + S1x1024x4x128.size a ≤ S4x131072x4x128.size a) ∧
  (∀ (hinb : ∀ a, (k0_off1 v0) a + S1x1024x4x128.size a ≤ S4x131072x4x128.size a), (Rect.unit (s := S4x131072x4x128) (k0_off1 v0) S1x1024x4x128.size hinb).WholeWords (EltTy.packing .fp8e4m3)) ∧
  (∀ a, (k0_off9 v0) a + S1x1024x4x128.size a ≤ S4x131072x4x128.size a) ∧
  (∀ (hinb : ∀ a, (k0_off9 v0) a + S1x1024x4x128.size a ≤ S4x131072x4x128.size a), (Rect.unit (s := S4x131072x4x128) (k0_off9 v0) S1x1024x4x128.size hinb).WholeWords (EltTy.packing .fp8e4m3))
theorem k0_off1_inb : ∀ (v0 : BitVec 32) (k0_hw1 : k0_chk1 v0), ∀ a, (k0_off1 v0) a + S1x1024x4x128.size a ≤ S4x131072x4x128.size a := fun v0 k0_hw1 => k0_hw1.1
theorem k0_off1_wordsfp8e4m3 : ∀ (v0 : BitVec 32) (k0_hw1 : k0_chk1 v0), (Rect.unit (s := S4x131072x4x128) (k0_off1 v0) S1x1024x4x128.size (k0_off1_inb v0 k0_hw1)).WholeWords (EltTy.packing .fp8e4m3) := fun v0 k0_hw1 => k0_hw1.2.1 (k0_off1_inb v0 k0_hw1)
theorem k0_off9_inb : ∀ (v0 : BitVec 32) (k0_hw1 : k0_chk1 v0), ∀ a, (k0_off9 v0) a + S1x1024x4x128.size a ≤ S4x131072x4x128.size a := fun v0 k0_hw1 => k0_hw1.2.2.1
theorem k0_off9_wordsfp8e4m3 : ∀ (v0 : BitVec 32) (k0_hw1 : k0_chk1 v0), (Rect.unit (s := S4x131072x4x128) (k0_off9 v0) S1x1024x4x128.size (k0_off9_inb v0 k0_hw1)).WholeWords (EltTy.packing .fp8e4m3) := fun v0 k0_hw1 => k0_hw1.2.2.2 (k0_off9_inb v0 k0_hw1)

def k0_off10 (v4 : BitVec 32) : Fin 4 → Nat :=
  let c1_i32_461 : BitVec 32 := 1#32
  let c130048_i32_2 : BitVec 32 := 130048#32
  let c0_i32_1 : BitVec 32 := 0#32
  let c1024_i32_0 : BitVec 32 := 1024#32
  let v5 : BitVec 32 := Scalar.subi v4 c1024_i32_0
  let v6 : BitVec 32 := Scalar.maxsi c0_i32_1 v5
  let v7 : BitVec 32 := Scalar.minsi c130048_i32_2 v6
  let c0_i32_467 : BitVec 32 := 0#32
  let c0_i32_468 : BitVec 32 := 0#32
  ![1, v7.toNat, 0, 0]

def k0_chk2 (v4 : BitVec 32) : Prop :=
  (∀ a, (k0_off2 v4) a + S1x1024x4x128.size a ≤ S4x131072x4x128.size a) ∧
  (∀ (hinb : ∀ a, (k0_off2 v4) a + S1x1024x4x128.size a ≤ S4x131072x4x128.size a), (Rect.unit (s := S4x131072x4x128) (k0_off2 v4) S1x1024x4x128.size hinb).WholeWords (EltTy.packing .fp8e4m3)) ∧
  (∀ a, (k0_off10 v4) a + S1x1024x4x128.size a ≤ S4x131072x4x128.size a) ∧
  (∀ (hinb : ∀ a, (k0_off10 v4) a + S1x1024x4x128.size a ≤ S4x131072x4x128.size a), (Rect.unit (s := S4x131072x4x128) (k0_off10 v4) S1x1024x4x128.size hinb).WholeWords (EltTy.packing .fp8e4m3))
theorem k0_off2_inb : ∀ (v4 : BitVec 32) (k0_hw2 : k0_chk2 v4), ∀ a, (k0_off2 v4) a + S1x1024x4x128.size a ≤ S4x131072x4x128.size a := fun v4 k0_hw2 => k0_hw2.1
theorem k0_off2_wordsfp8e4m3 : ∀ (v4 : BitVec 32) (k0_hw2 : k0_chk2 v4), (Rect.unit (s := S4x131072x4x128) (k0_off2 v4) S1x1024x4x128.size (k0_off2_inb v4 k0_hw2)).WholeWords (EltTy.packing .fp8e4m3) := fun v4 k0_hw2 => k0_hw2.2.1 (k0_off2_inb v4 k0_hw2)
theorem k0_off10_inb : ∀ (v4 : BitVec 32) (k0_hw2 : k0_chk2 v4), ∀ a, (k0_off10 v4) a + S1x1024x4x128.size a ≤ S4x131072x4x128.size a := fun v4 k0_hw2 => k0_hw2.2.2.1
theorem k0_off10_wordsfp8e4m3 : ∀ (v4 : BitVec 32) (k0_hw2 : k0_chk2 v4), (Rect.unit (s := S4x131072x4x128) (k0_off10 v4) S1x1024x4x128.size (k0_off10_inb v4 k0_hw2)).WholeWords (EltTy.packing .fp8e4m3) := fun v4 k0_hw2 => k0_hw2.2.2.2 (k0_off10_inb v4 k0_hw2)

def k0_off11 (v8 : BitVec 32) : Fin 4 → Nat :=
  let c2_i32_499 : BitVec 32 := 2#32
  let c130048_i32_5 : BitVec 32 := 130048#32
  let c0_i32_4 : BitVec 32 := 0#32
  let c1024_i32_3 : BitVec 32 := 1024#32
  let v9 : BitVec 32 := Scalar.subi v8 c1024_i32_3
  let v10 : BitVec 32 := Scalar.maxsi c0_i32_4 v9
  let v11 : BitVec 32 := Scalar.minsi c130048_i32_5 v10
  let c0_i32_505 : BitVec 32 := 0#32
  let c0_i32_506 : BitVec 32 := 0#32
  ![2, v11.toNat, 0, 0]

def k0_chk3 (v8 : BitVec 32) : Prop :=
  (∀ a, (k0_off3 v8) a + S1x1024x4x128.size a ≤ S4x131072x4x128.size a) ∧
  (∀ (hinb : ∀ a, (k0_off3 v8) a + S1x1024x4x128.size a ≤ S4x131072x4x128.size a), (Rect.unit (s := S4x131072x4x128) (k0_off3 v8) S1x1024x4x128.size hinb).WholeWords (EltTy.packing .fp8e4m3)) ∧
  (∀ a, (k0_off11 v8) a + S1x1024x4x128.size a ≤ S4x131072x4x128.size a) ∧
  (∀ (hinb : ∀ a, (k0_off11 v8) a + S1x1024x4x128.size a ≤ S4x131072x4x128.size a), (Rect.unit (s := S4x131072x4x128) (k0_off11 v8) S1x1024x4x128.size hinb).WholeWords (EltTy.packing .fp8e4m3))
theorem k0_off3_inb : ∀ (v8 : BitVec 32) (k0_hw3 : k0_chk3 v8), ∀ a, (k0_off3 v8) a + S1x1024x4x128.size a ≤ S4x131072x4x128.size a := fun v8 k0_hw3 => k0_hw3.1
theorem k0_off3_wordsfp8e4m3 : ∀ (v8 : BitVec 32) (k0_hw3 : k0_chk3 v8), (Rect.unit (s := S4x131072x4x128) (k0_off3 v8) S1x1024x4x128.size (k0_off3_inb v8 k0_hw3)).WholeWords (EltTy.packing .fp8e4m3) := fun v8 k0_hw3 => k0_hw3.2.1 (k0_off3_inb v8 k0_hw3)
theorem k0_off11_inb : ∀ (v8 : BitVec 32) (k0_hw3 : k0_chk3 v8), ∀ a, (k0_off11 v8) a + S1x1024x4x128.size a ≤ S4x131072x4x128.size a := fun v8 k0_hw3 => k0_hw3.2.2.1
theorem k0_off11_wordsfp8e4m3 : ∀ (v8 : BitVec 32) (k0_hw3 : k0_chk3 v8), (Rect.unit (s := S4x131072x4x128) (k0_off11 v8) S1x1024x4x128.size (k0_off11_inb v8 k0_hw3)).WholeWords (EltTy.packing .fp8e4m3) := fun v8 k0_hw3 => k0_hw3.2.2.2 (k0_off11_inb v8 k0_hw3)

def k0_off12 (v12 : BitVec 32) : Fin 4 → Nat :=
  let c3_i32_537 : BitVec 32 := 3#32
  let c130048_i32_8 : BitVec 32 := 130048#32
  let c0_i32_7 : BitVec 32 := 0#32
  let c1024_i32_6 : BitVec 32 := 1024#32
  let v13 : BitVec 32 := Scalar.subi v12 c1024_i32_6
  let v14 : BitVec 32 := Scalar.maxsi c0_i32_7 v13
  let v15 : BitVec 32 := Scalar.minsi c130048_i32_8 v14
  let c0_i32_543 : BitVec 32 := 0#32
  let c0_i32_544 : BitVec 32 := 0#32
  ![3, v15.toNat, 0, 0]

def k0_chk4 (v12 : BitVec 32) : Prop :=
  (∀ a, (k0_off4 v12) a + S1x1024x4x128.size a ≤ S4x131072x4x128.size a) ∧
  (∀ (hinb : ∀ a, (k0_off4 v12) a + S1x1024x4x128.size a ≤ S4x131072x4x128.size a), (Rect.unit (s := S4x131072x4x128) (k0_off4 v12) S1x1024x4x128.size hinb).WholeWords (EltTy.packing .fp8e4m3)) ∧
  (∀ a, (k0_off12 v12) a + S1x1024x4x128.size a ≤ S4x131072x4x128.size a) ∧
  (∀ (hinb : ∀ a, (k0_off12 v12) a + S1x1024x4x128.size a ≤ S4x131072x4x128.size a), (Rect.unit (s := S4x131072x4x128) (k0_off12 v12) S1x1024x4x128.size hinb).WholeWords (EltTy.packing .fp8e4m3))
theorem k0_off4_inb : ∀ (v12 : BitVec 32) (k0_hw4 : k0_chk4 v12), ∀ a, (k0_off4 v12) a + S1x1024x4x128.size a ≤ S4x131072x4x128.size a := fun v12 k0_hw4 => k0_hw4.1
theorem k0_off4_wordsfp8e4m3 : ∀ (v12 : BitVec 32) (k0_hw4 : k0_chk4 v12), (Rect.unit (s := S4x131072x4x128) (k0_off4 v12) S1x1024x4x128.size (k0_off4_inb v12 k0_hw4)).WholeWords (EltTy.packing .fp8e4m3) := fun v12 k0_hw4 => k0_hw4.2.1 (k0_off4_inb v12 k0_hw4)
theorem k0_off12_inb : ∀ (v12 : BitVec 32) (k0_hw4 : k0_chk4 v12), ∀ a, (k0_off12 v12) a + S1x1024x4x128.size a ≤ S4x131072x4x128.size a := fun v12 k0_hw4 => k0_hw4.2.2.1
theorem k0_off12_wordsfp8e4m3 : ∀ (v12 : BitVec 32) (k0_hw4 : k0_chk4 v12), (Rect.unit (s := S4x131072x4x128) (k0_off12 v12) S1x1024x4x128.size (k0_off12_inb v12 k0_hw4)).WholeWords (EltTy.packing .fp8e4m3) := fun v12 k0_hw4 => k0_hw4.2.2.2 (k0_off12_inb v12 k0_hw4)

def k0_off13 (v16 : BitVec 32) : Fin 4 → Nat :=
  let c0_i32_575 : BitVec 32 := 0#32
  let c130048_i32_12 : BitVec 32 := 130048#32
  let c0_i32_11 : BitVec 32 := 0#32
  let c1024_i32_10 : BitVec 32 := 1024#32
  let v17 : BitVec 32 := Scalar.subi v16 c1024_i32_10
  let v18 : BitVec 32 := Scalar.maxsi c0_i32_11 v17
  let v19 : BitVec 32 := Scalar.minsi c130048_i32_12 v18
  let c0_i32_581 : BitVec 32 := 0#32
  let c0_i32_582 : BitVec 32 := 0#32
  ![0, v19.toNat, 0, 0]

def k0_chk5 (v16 : BitVec 32) : Prop :=
  (∀ a, (k0_off5 v16) a + S1x1024x4x128.size a ≤ S4x131072x4x128.size a) ∧
  (∀ (hinb : ∀ a, (k0_off5 v16) a + S1x1024x4x128.size a ≤ S4x131072x4x128.size a), (Rect.unit (s := S4x131072x4x128) (k0_off5 v16) S1x1024x4x128.size hinb).WholeWords (EltTy.packing .fp8e4m3)) ∧
  (∀ a, (k0_off13 v16) a + S1x1024x4x128.size a ≤ S4x131072x4x128.size a) ∧
  (∀ (hinb : ∀ a, (k0_off13 v16) a + S1x1024x4x128.size a ≤ S4x131072x4x128.size a), (Rect.unit (s := S4x131072x4x128) (k0_off13 v16) S1x1024x4x128.size hinb).WholeWords (EltTy.packing .fp8e4m3))
theorem k0_off5_inb : ∀ (v16 : BitVec 32) (k0_hw5 : k0_chk5 v16), ∀ a, (k0_off5 v16) a + S1x1024x4x128.size a ≤ S4x131072x4x128.size a := fun v16 k0_hw5 => k0_hw5.1
theorem k0_off5_wordsfp8e4m3 : ∀ (v16 : BitVec 32) (k0_hw5 : k0_chk5 v16), (Rect.unit (s := S4x131072x4x128) (k0_off5 v16) S1x1024x4x128.size (k0_off5_inb v16 k0_hw5)).WholeWords (EltTy.packing .fp8e4m3) := fun v16 k0_hw5 => k0_hw5.2.1 (k0_off5_inb v16 k0_hw5)
theorem k0_off13_inb : ∀ (v16 : BitVec 32) (k0_hw5 : k0_chk5 v16), ∀ a, (k0_off13 v16) a + S1x1024x4x128.size a ≤ S4x131072x4x128.size a := fun v16 k0_hw5 => k0_hw5.2.2.1
theorem k0_off13_wordsfp8e4m3 : ∀ (v16 : BitVec 32) (k0_hw5 : k0_chk5 v16), (Rect.unit (s := S4x131072x4x128) (k0_off13 v16) S1x1024x4x128.size (k0_off13_inb v16 k0_hw5)).WholeWords (EltTy.packing .fp8e4m3) := fun v16 k0_hw5 => k0_hw5.2.2.2 (k0_off13_inb v16 k0_hw5)

def k0_off14 (v20 : BitVec 32) : Fin 4 → Nat :=
  let c1_i32_607 : BitVec 32 := 1#32
  let c130048_i32_16 : BitVec 32 := 130048#32
  let c0_i32_15 : BitVec 32 := 0#32
  let c1024_i32_14 : BitVec 32 := 1024#32
  let v21 : BitVec 32 := Scalar.subi v20 c1024_i32_14
  let v22 : BitVec 32 := Scalar.maxsi c0_i32_15 v21
  let v23 : BitVec 32 := Scalar.minsi c130048_i32_16 v22
  let c0_i32_613 : BitVec 32 := 0#32
  let c0_i32_614 : BitVec 32 := 0#32
  ![1, v23.toNat, 0, 0]

def k0_chk6 (v20 : BitVec 32) : Prop :=
  (∀ a, (k0_off6 v20) a + S1x1024x4x128.size a ≤ S4x131072x4x128.size a) ∧
  (∀ (hinb : ∀ a, (k0_off6 v20) a + S1x1024x4x128.size a ≤ S4x131072x4x128.size a), (Rect.unit (s := S4x131072x4x128) (k0_off6 v20) S1x1024x4x128.size hinb).WholeWords (EltTy.packing .fp8e4m3)) ∧
  (∀ a, (k0_off14 v20) a + S1x1024x4x128.size a ≤ S4x131072x4x128.size a) ∧
  (∀ (hinb : ∀ a, (k0_off14 v20) a + S1x1024x4x128.size a ≤ S4x131072x4x128.size a), (Rect.unit (s := S4x131072x4x128) (k0_off14 v20) S1x1024x4x128.size hinb).WholeWords (EltTy.packing .fp8e4m3))
theorem k0_off6_inb : ∀ (v20 : BitVec 32) (k0_hw6 : k0_chk6 v20), ∀ a, (k0_off6 v20) a + S1x1024x4x128.size a ≤ S4x131072x4x128.size a := fun v20 k0_hw6 => k0_hw6.1
theorem k0_off6_wordsfp8e4m3 : ∀ (v20 : BitVec 32) (k0_hw6 : k0_chk6 v20), (Rect.unit (s := S4x131072x4x128) (k0_off6 v20) S1x1024x4x128.size (k0_off6_inb v20 k0_hw6)).WholeWords (EltTy.packing .fp8e4m3) := fun v20 k0_hw6 => k0_hw6.2.1 (k0_off6_inb v20 k0_hw6)
theorem k0_off14_inb : ∀ (v20 : BitVec 32) (k0_hw6 : k0_chk6 v20), ∀ a, (k0_off14 v20) a + S1x1024x4x128.size a ≤ S4x131072x4x128.size a := fun v20 k0_hw6 => k0_hw6.2.2.1
theorem k0_off14_wordsfp8e4m3 : ∀ (v20 : BitVec 32) (k0_hw6 : k0_chk6 v20), (Rect.unit (s := S4x131072x4x128) (k0_off14 v20) S1x1024x4x128.size (k0_off14_inb v20 k0_hw6)).WholeWords (EltTy.packing .fp8e4m3) := fun v20 k0_hw6 => k0_hw6.2.2.2 (k0_off14_inb v20 k0_hw6)

def k0_off15 (v24 : BitVec 32) : Fin 4 → Nat :=
  let c2_i32_639 : BitVec 32 := 2#32
  let c130048_i32_20 : BitVec 32 := 130048#32
  let c0_i32_19 : BitVec 32 := 0#32
  let c1024_i32_18 : BitVec 32 := 1024#32
  let v25 : BitVec 32 := Scalar.subi v24 c1024_i32_18
  let v26 : BitVec 32 := Scalar.maxsi c0_i32_19 v25
  let v27 : BitVec 32 := Scalar.minsi c130048_i32_20 v26
  let c0_i32_645 : BitVec 32 := 0#32
  let c0_i32_646 : BitVec 32 := 0#32
  ![2, v27.toNat, 0, 0]

def k0_chk7 (v24 : BitVec 32) : Prop :=
  (∀ a, (k0_off7 v24) a + S1x1024x4x128.size a ≤ S4x131072x4x128.size a) ∧
  (∀ (hinb : ∀ a, (k0_off7 v24) a + S1x1024x4x128.size a ≤ S4x131072x4x128.size a), (Rect.unit (s := S4x131072x4x128) (k0_off7 v24) S1x1024x4x128.size hinb).WholeWords (EltTy.packing .fp8e4m3)) ∧
  (∀ a, (k0_off15 v24) a + S1x1024x4x128.size a ≤ S4x131072x4x128.size a) ∧
  (∀ (hinb : ∀ a, (k0_off15 v24) a + S1x1024x4x128.size a ≤ S4x131072x4x128.size a), (Rect.unit (s := S4x131072x4x128) (k0_off15 v24) S1x1024x4x128.size hinb).WholeWords (EltTy.packing .fp8e4m3))
theorem k0_off7_inb : ∀ (v24 : BitVec 32) (k0_hw7 : k0_chk7 v24), ∀ a, (k0_off7 v24) a + S1x1024x4x128.size a ≤ S4x131072x4x128.size a := fun v24 k0_hw7 => k0_hw7.1
theorem k0_off7_wordsfp8e4m3 : ∀ (v24 : BitVec 32) (k0_hw7 : k0_chk7 v24), (Rect.unit (s := S4x131072x4x128) (k0_off7 v24) S1x1024x4x128.size (k0_off7_inb v24 k0_hw7)).WholeWords (EltTy.packing .fp8e4m3) := fun v24 k0_hw7 => k0_hw7.2.1 (k0_off7_inb v24 k0_hw7)
theorem k0_off15_inb : ∀ (v24 : BitVec 32) (k0_hw7 : k0_chk7 v24), ∀ a, (k0_off15 v24) a + S1x1024x4x128.size a ≤ S4x131072x4x128.size a := fun v24 k0_hw7 => k0_hw7.2.2.1
theorem k0_off15_wordsfp8e4m3 : ∀ (v24 : BitVec 32) (k0_hw7 : k0_chk7 v24), (Rect.unit (s := S4x131072x4x128) (k0_off15 v24) S1x1024x4x128.size (k0_off15_inb v24 k0_hw7)).WholeWords (EltTy.packing .fp8e4m3) := fun v24 k0_hw7 => k0_hw7.2.2.2 (k0_off15_inb v24 k0_hw7)

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4x32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4x4x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x4x4x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S4x4x32x128 : Shape := ⟨4, ![4, 4, 32, 128]⟩
abbrev S4x4x4x128 : Shape := ⟨4, ![4, 4, 4, 128]⟩
abbrev S4x131072x4x128 : Shape := ⟨4, ![4, 131072, 4, 128]⟩
abbrev S4 : Shape := ⟨1, ![4]⟩
abbrev S1x1x4x1 : Shape := ⟨4, ![1, 1, 4, 1]⟩
abbrev S4x4x4x8x128 : Shape := ⟨5, ![4, 4, 4, 8, 128]⟩
abbrev S1 : Shape := ⟨1, ![1]⟩
abbrev S1x1024x4x128 : Shape := ⟨4, ![1, 1024, 4, 128]⟩
abbrev S1024x4x128 : Shape := ⟨3, ![1024, 4, 128]⟩
abbrev S4x1024x4x128 : Shape := ⟨4, ![4, 1024, 4, 128]⟩
abbrev S4x4x1024x4x8 : Shape := ⟨5, ![4, 4, 1024, 4, 8]⟩
abbrev S4x4x8x4x1024 : Shape := ⟨5, ![4, 4, 8, 4, 1024]⟩
abbrev S4x4x4x4x8 : Shape := ⟨5, ![4, 4, 4, 4, 8]⟩
abbrev S4x4x8x4x4 : Shape := ⟨5, ![4, 4, 8, 4, 4]⟩
abbrev S1x4x1x1x1 : Shape := ⟨5, ![1, 4, 1, 1, 1]⟩
abbrev S4x1024 : Shape := ⟨2, ![4, 1024]⟩
abbrev S4x4 : Shape := ⟨2, ![4, 4]⟩
abbrev S1x4x1024 : Shape := ⟨3, ![1, 4, 1024]⟩
abbrev S4x4x1024 : Shape := ⟨3, ![4, 4, 1024]⟩
abbrev S1x4x4 : Shape := ⟨3, ![1, 4, 4]⟩
abbrev S4x4x4 : Shape := ⟨3, ![4, 4, 4]⟩
abbrev S4x1x1x4x1024 : Shape := ⟨5, ![4, 1, 1, 4, 1024]⟩
abbrev S4x1x1x4x4 : Shape := ⟨5, ![4, 1, 1, 4, 4]⟩
abbrev S4x4x8x4x1028 : Shape := ⟨5, ![4, 4, 8, 4, 1028]⟩
abbrev S4x4x8x4 : Shape := ⟨4, ![4, 4, 8, 4]⟩
abbrev S4x4x8x4x1 : Shape := ⟨5, ![4, 4, 8, 4, 1]⟩
abbrev S4x4x128x8x4 : Shape := ⟨5, ![4, 4, 128, 8, 4]⟩

abbrev nBuf : Space → Nat
  | .hbm => 13
  | .vmem => 12
  | .smem => 1
  | _ => 0

abbrev bufTy : (tb : Table) → Fin (tcTables nBuf tb) → BufTy
  | .hbm, ⟨0, _⟩ => ⟨S4x4x32x128, .bf16⟩
  | .hbm, ⟨1, _⟩ => ⟨S4x4x4x128, .bf16⟩
  | .hbm, ⟨2, _⟩ => ⟨S4x4x4x128, .bf16⟩
  | .hbm, ⟨3, _⟩ => ⟨S4x131072x4x128, .fp8e4m3⟩
  | .hbm, ⟨4, _⟩ => ⟨S4x131072x4x128, .fp8e4m3⟩
  | .hbm, ⟨5, _⟩ => ⟨S4, .i32⟩
  | .hbm, ⟨6, _⟩ => ⟨S4, .i32⟩
  | .hbm, ⟨7, _⟩ => ⟨S4, .i32⟩
  | .hbm, ⟨8, _⟩ => ⟨S4x4x32x128, .bf16⟩
  | .hbm, ⟨9, _⟩ => ⟨S4x4x4x128, .fp8e4m3⟩
  | .hbm, ⟨10, _⟩ => ⟨S4, .f32⟩
  | .hbm, ⟨11, _⟩ => ⟨S4x4x4x128, .fp8e4m3⟩
  | .hbm, ⟨12, _⟩ => ⟨S4, .f32⟩
  | .local _ .vmem, ⟨0, _⟩ => ⟨S4, .i32⟩
  | .local _ .vmem, ⟨1, _⟩ => ⟨S4, .i32⟩
  | .local _ .vmem, ⟨2, _⟩ => ⟨S4x4x32x128, .bf16⟩
  | .local _ .vmem, ⟨3, _⟩ => ⟨S4x4x4x128, .bf16⟩
  | .local _ .vmem, ⟨4, _⟩ => ⟨S4x4x4x128, .bf16⟩
  | .local _ .vmem, ⟨5, _⟩ => ⟨S4x131072x4x128, .fp8e4m3⟩
  | .local _ .vmem, ⟨6, _⟩ => ⟨S4x131072x4x128, .fp8e4m3⟩
  | .local _ .vmem, ⟨7, _⟩ => ⟨S4x4x32x128, .bf16⟩
  | .local _ .vmem, ⟨8, _⟩ => ⟨S4x4x4x128, .fp8e4m3⟩
  | .local _ .vmem, ⟨9, _⟩ => ⟨S4, .f32⟩
  | .local _ .vmem, ⟨10, _⟩ => ⟨S4x4x4x128, .fp8e4m3⟩
  | .local _ .vmem, ⟨11, _⟩ => ⟨S4, .f32⟩
  | .local _ .smem, ⟨0, _⟩ => ⟨S4, .i32⟩
  | _, _ => ⟨S4x4x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

def k0_off1 (v42 : BitVec 32) : Fin 4 → Nat :=
  let c0_40 : Index := 0#32
  let c130048_i32 : BitVec 32 := 130048#32
  let c0_i32_30 : BitVec 32 := 0#32
  let c1024_i32 : BitVec 32 := 1024#32
  let v43 : BitVec 32 := Scalar.subi v42 c1024_i32
  let v44 : BitVec 32 := Scalar.maxsi c0_i32_30 v43
  let v45 : BitVec 32 := Scalar.minsi c130048_i32 v44
  let v58 : Index := Scalar.indexCast v45
  let c0_41 : Index := 0#32
  let c0_42 : Index := 0#32
  ![0, v58.toNat, 0, 0]

def k0_off2 (v46 : BitVec 32) : Fin 4 → Nat :=
  let c1_43 : Index := 1#32
  let c130048_i32_33 : BitVec 32 := 130048#32
  let c0_i32_32 : BitVec 32 := 0#32
  let c1024_i32_31 : BitVec 32 := 1024#32
  let v47 : BitVec 32 := Scalar.subi v46 c1024_i32_31
  let v48 : BitVec 32 := Scalar.maxsi c0_i32_32 v47
  let v49 : BitVec 32 := Scalar.minsi c130048_i32_33 v48
  let v61 : Index := Scalar.indexCast v49
  let c0_44 : Index := 0#32
  let c0_45 : Index := 0#32
  ![1, v61.toNat, 0, 0]

def k0_off3 (v50 : BitVec 32) : Fin 4 → Nat :=
  let c2_46 : Index := 2#32
  let c130048_i32_36 : BitVec 32 := 130048#32
  let c0_i32_35 : BitVec 32 := 0#32
  let c1024_i32_34 : BitVec 32 := 1024#32
  let v51 : BitVec 32 := Scalar.subi v50 c1024_i32_34
  let v52 : BitVec 32 := Scalar.maxsi c0_i32_35 v51
  let v53 : BitVec 32 := Scalar.minsi c130048_i32_36 v52
  let v64 : Index := Scalar.indexCast v53
  let c0_47 : Index := 0#32
  let c0_48 : Index := 0#32
  ![2, v64.toNat, 0, 0]

def k0_off4 (v54 : BitVec 32) : Fin 4 → Nat :=
  let c3_49 : Index := 3#32
  let c130048_i32_39 : BitVec 32 := 130048#32
  let c0_i32_38 : BitVec 32 := 0#32
  let c1024_i32_37 : BitVec 32 := 1024#32
  let v55 : BitVec 32 := Scalar.subi v54 c1024_i32_37
  let v56 : BitVec 32 := Scalar.maxsi c0_i32_38 v55
  let v57 : BitVec 32 := Scalar.minsi c130048_i32_39 v56
  let v67 : Index := Scalar.indexCast v57
  let c0_50 : Index := 0#32
  let c0_51 : Index := 0#32
  ![3, v67.toNat, 0, 0]

def k0_chk4 (v54 : BitVec 32) : Prop :=
  (∀ a, (k0_off4 v54) a + S1x1024x4x128.size a ≤ S4x131072x4x128.size a)
theorem k0_off4_inb : ∀ (v54 : BitVec 32) (k0_hw4 : k0_chk4 v54), ∀ a, (k0_off4 v54) a + S1x1024x4x128.size a ≤ S4x131072x4x128.size a := fun v54 k0_hw4 => k0_hw4

def k0_off5 (v42 : BitVec 32) : Fin 4 → Nat :=
  let c0_52 : Index := 0#32
  let c130048_i32 : BitVec 32 := 130048#32
  let c0_i32_30 : BitVec 32 := 0#32
  let c1024_i32 : BitVec 32 := 1024#32
  let v43 : BitVec 32 := Scalar.subi v42 c1024_i32
  let v44 : BitVec 32 := Scalar.maxsi c0_i32_30 v43
  let v45 : BitVec 32 := Scalar.minsi c130048_i32 v44
  let v75 : Index := Scalar.indexCast v45
  let c0_53 : Index := 0#32
  let c0_54 : Index := 0#32
  ![0, v75.toNat, 0, 0]

def k0_chk1 (v42 : BitVec 32) : Prop :=
  (∀ a, (k0_off1 v42) a + S1x1024x4x128.size a ≤ S4x131072x4x128.size a) ∧
  (∀ a, (k0_off5 v42) a + S1x1024x4x128.size a ≤ S4x131072x4x128.size a)
theorem k0_off1_inb : ∀ (v42 : BitVec 32) (k0_hw1 : k0_chk1 v42), ∀ a, (k0_off1 v42) a + S1x1024x4x128.size a ≤ S4x131072x4x128.size a := fun v42 k0_hw1 => k0_hw1.1
theorem k0_off5_inb : ∀ (v42 : BitVec 32) (k0_hw1 : k0_chk1 v42), ∀ a, (k0_off5 v42) a + S1x1024x4x128.size a ≤ S4x131072x4x128.size a := fun v42 k0_hw1 => k0_hw1.2

def k0_off6 (v46 : BitVec 32) : Fin 4 → Nat :=
  let c1_55 : Index := 1#32
  let c130048_i32_33 : BitVec 32 := 130048#32
  let c0_i32_32 : BitVec 32 := 0#32
  let c1024_i32_31 : BitVec 32 := 1024#32
  let v47 : BitVec 32 := Scalar.subi v46 c1024_i32_31
  let v48 : BitVec 32 := Scalar.maxsi c0_i32_32 v47
  let v49 : BitVec 32 := Scalar.minsi c130048_i32_33 v48
  let v78 : Index := Scalar.indexCast v49
  let c0_56 : Index := 0#32
  let c0_57 : Index := 0#32
  ![1, v78.toNat, 0, 0]

def k0_chk2 (v46 : BitVec 32) : Prop :=
  (∀ a, (k0_off2 v46) a + S1x1024x4x128.size a ≤ S4x131072x4x128.size a) ∧
  (∀ a, (k0_off6 v46) a + S1x1024x4x128.size a ≤ S4x131072x4x128.size a)
theorem k0_off2_inb : ∀ (v46 : BitVec 32) (k0_hw2 : k0_chk2 v46), ∀ a, (k0_off2 v46) a + S1x1024x4x128.size a ≤ S4x131072x4x128.size a := fun v46 k0_hw2 => k0_hw2.1
theorem k0_off6_inb : ∀ (v46 : BitVec 32) (k0_hw2 : k0_chk2 v46), ∀ a, (k0_off6 v46) a + S1x1024x4x128.size a ≤ S4x131072x4x128.size a := fun v46 k0_hw2 => k0_hw2.2

def k0_off7 (v50 : BitVec 32) : Fin 4 → Nat :=
  let c2_58 : Index := 2#32
  let c130048_i32_36 : BitVec 32 := 130048#32
  let c0_i32_35 : BitVec 32 := 0#32
  let c1024_i32_34 : BitVec 32 := 1024#32
  let v51 : BitVec 32 := Scalar.subi v50 c1024_i32_34
  let v52 : BitVec 32 := Scalar.maxsi c0_i32_35 v51
  let v53 : BitVec 32 := Scalar.minsi c130048_i32_36 v52
  let v81 : Index := Scalar.indexCast v53
  let c0_59 : Index := 0#32
  let c0_60 : Index := 0#32
  ![2, v81.toNat, 0, 0]

def k0_chk3 (v50 : BitVec 32) : Prop :=
  (∀ a, (k0_off3 v50) a + S1x1024x4x128.size a ≤ S4x131072x4x128.size a) ∧
  (∀ a, (k0_off7 v50) a + S1x1024x4x128.size a ≤ S4x131072x4x128.size a)
theorem k0_off3_inb : ∀ (v50 : BitVec 32) (k0_hw3 : k0_chk3 v50), ∀ a, (k0_off3 v50) a + S1x1024x4x128.size a ≤ S4x131072x4x128.size a := fun v50 k0_hw3 => k0_hw3.1
theorem k0_off7_inb : ∀ (v50 : BitVec 32) (k0_hw3 : k0_chk3 v50), ∀ a, (k0_off7 v50) a + S1x1024x4x128.size a ≤ S4x131072x4x128.size a := fun v50 k0_hw3 => k0_hw3.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4x32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4x4x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4x4x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x131072x4x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x131072x4x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x4x32x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x4x4x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x4x4x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KFrame.Runs.lean ====
/- The kernel's frame, first part: @main up to its one region, the arrays' contents there, each window's block at a point, the staging and
   scratch memrefs, and the frame's post from any proof data's run. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 0 rfl).trans ((hA c 0).trans (V_main_arg5 m c)),
      (Pipeline.RDat.FramePost.arr_in h c 1 rfl).trans ((hA c 1).trans (V_main_arg6 m c)),
      (Pipeline.RDat.FramePost.arr_in h c 2 rfl).trans ((hA c 2).trans (V_main_arg7 m c))⟩) h

/-! ## The kernel body on any staging memrefs: a subtype the run finds -/

/-- Each window's current staging memref at point `t`, spelled as the pipeline passes it (`bodyAt0`), and its wholeness. -/
abbrev ms0_0 (t : Fin cfg0.N) : Memref sig .tc .smem S4 .i32 := win0_0.stage (cfg0.slots t 0)
abbrev hs0_0 (t : Fin cfg0.N) : (ms0_0 t).IsWhole := hstage0_0 0
abbrev ms0_1 (t : Fin cfg0.N) : Memref sig .tc .smem S4 .i32 := win0_1.stage (cfg0.slots t 1)
abbrev hs0_1 (t : Fin cfg0.N) : (ms0_1 t).IsWhole := hstage0_1 0
abbrev ms0_2 (t : Fin cfg0.N) : Memref sig .tc .smem S4 .i32 := win0_2.stage (cfg0.slots t 2)
abbrev hs0_2 (t : Fin cfg0.N) : (ms0_2 t).IsWhole := hstage0_2 0
abbrev ms0_3 (t : Fin cfg0.N) : Memref sig .tc .vmem S4x4x32x128 .bf16 := win0_3.stage (cfg0.slots t 3)
abbrev hs0_3 (t : Fin cfg0.N) : (ms0_3 t).IsWhole := hstage0_3 0
abbrev ms0_4 (t : Fin cfg0.N) : Memref sig .tc .vmem S4x4x4x128 .fp8e4m3 := win0_4.stage (cfg0.slots t 4)
abbrev hs0_4 (t : Fin cfg0.N) : (ms0_4 t).IsWhole := hstage0_4 0
abbrev ms0_5 (t : Fin cfg0.N) : Memref sig .tc .smem S4 .f32 := win0_5.stage (cfg0.slots t 5)
abbrev hs0_5 (t : Fin cfg0.N) : (ms0_5 t).IsWhole := hstage0_5 0
abbrev ms0_6 (t : Fin cfg0.N) : Memref sig .tc .vmem S4x4x4x128 .fp8e4m3 := win0_6.stage (cfg0.slots t 6)
abbrev hs0_6 (t : Fin cfg0.N) : (ms0_6 t).IsWhole := hstage0_6 0
abbrev ms0_7 (t : Fin cfg0.N) : Memref sig .tc .smem S4 .f32 := win0_7.stage (cfg0.slots t 7)
abbrev hs0_7 (t : Fin cfg0.N) : (ms0_7 t).IsWhole := hstage0_7 0
/-- The scratch operands: whole scoped buffers of the kernel's own, passed beside the windows. -/
abbrev scM0_0 : Memref sig .tc .vmem S4x1024x4x128 .fp8e4m3 := Memref.whole cc0_scratch0
abbrev scM0_1 : Memref sig .tc .vmem S4x1024x4x128 .fp8e4m3 := Memref.whole cc0_scratch1
abbrev scM0_2 : Memref sig .tc .vmem S4x4x32x128 .bf16 := Memref.whole cc0_scratch2
abbrev scM0_3 : Memref sig .tc .vmem S4x4x4x128 .bf16 := Memref.whole cc0_scratch3
abbrev scM0_4 : Memref sig .tc .vmem S4x4x4x128 .bf16 := Memref.whole cc0_scratch4
/-- The operands left in HBM that the body copies into scratch itself, whole. -/
abbrev hbM0_0 : Memref sig .tc .hbm S4x4x32x128 .bf16 := Memref.whole main_arg0
abbrev hbM0_1 : Memref sig .tc .hbm S4x4x4x128 .bf16 := Memref.whole main_arg1
abbrev hbM0_2 : Memref sig .tc .hbm S4x4x4x128 .bf16 := Memref.whole main_arg2
abbrev hbM0_3 : Memref sig .tc .hbm S4x131072x4x128 .fp8e4m3 := Memref.whole main_arg3
abbrev hbM0_4 : Memref sig .tc .hbm S4x131072x4x128 .fp8e4m3 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 11 → SemLoc sig := fun j => (![SemLoc.dma 8, SemLoc.dma 9, SemLoc.dma 10, SemLoc.dma 11, SemLoc.dma 12, SemLoc.dma 13, SemLoc.dma 14, SemLoc.dma 15, SemLoc.dma 16, SemLoc.dma 17, SemLoc.dma 18] : Fin 11 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10] (by decide) (by decide)]; rfl
/-- The HBM operands the body moves, as references: unscoped, no window's array (`Pipeline.restRefs`). -/
def H0 : Finset (Ref sig .tc) := {main_arg0, main_arg1, main_arg2, main_arg3, main_arg4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0) ∗ hbPt0 c hbM0_1 (V m c main_arg1) ∗ hbPt0 c hbM0_2 (V m c main_arg2) ∗ hbPt0 c hbM0_3 (V m c main_arg3) ∗ hbPt0 c hbM0_4 (V m c main_arg4)) := by
  rw [BI.bigSep_eq_bigSepL_of_eq [main_arg0, main_arg1, main_arg2, main_arg3, main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg0) ∗ hbPt0 c hbM0_1 (V m c main_arg1) ∗ hbPt0 c hbM0_2 (V m c main_arg2) ∗ hbPt0 c hbM0_3 (V m c main_arg3) ∗ hbPt0 c hbM0_4 (V m c main_arg4))) := by
  rw [Pipeline.ΦD_eq, scopedRest0_eq, ownSems00_eq, hbmPts0_eq]; simp only [scM0_0, scM0_1, scM0_2, scM0_3, scM0_4, owns_whole]; try rfl

end Cert.Kernel.Run

end
-- ==== Proof.KFrame.RunA.lean ====
/- The kernel's frame, second part: the run of the kernel's whole body, each output handed back at some contents. -/
module

public import proofs.«01_k».proof.Proof.KFrame.Runs

@[expose] public section

-- membership in a rectangle of production extents (`View.cover_of_tiled`): the elaborator's structural look
-- recurses once per coordinate of the long axes
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1676000 in set_option sl_exec.dmaWindow true in set_option sl_exec.dmaWindowSet true in
/-- The body's triple: on whole staging memrefs — the inputs' at their contents,
    the FORGOTTEN outputs' (3, 4, 5, 6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .smem S4 .i32) (harg0 : arg0.IsWhole) (arg1 : Memref sig .tc .smem S4 .i32) (harg1 : arg1.IsWhole) (arg2 : Memref sig .tc .smem S4 .i32) (harg2 : arg2.IsWhole) (arg8 : Memref sig .tc .vmem S4x4x32x128 .bf16) (harg8 : arg8.IsWhole) (arg9 : Memref sig .tc .vmem S4x4x4x128 .fp8e4m3) (harg9 : arg9.IsWhole) (arg10 : Memref sig .tc .smem S4 .f32) (harg10 : arg10.IsWhole) (arg11 : Memref sig .tc .vmem S4x4x4x128 .fp8e4m3) (harg11 : arg11.IsWhole) (arg12 : Memref sig .tc .smem S4 .f32) (harg12 : arg12.IsWhole) (arg13 : Memref sig .tc .vmem S4x1024x4x128 .fp8e4m3) (harg13 : arg13.IsWhole) (arg14 : Memref sig .tc .vmem S4x1024x4x128 .fp8e4m3) (harg14 : arg14.IsWhole) (arg15 : Memref sig .tc .vmem S4x4x32x128 .bf16) (harg15 : arg15.IsWhole) (arg16 : Memref sig .tc .vmem S4x4x4x128 .bf16) (harg16 : arg16.IsWhole) (arg17 : Memref sig .tc .vmem S4x4x4x128 .bf16) (harg17 : arg17.IsWhole)
    (x0 : Vec F S4 .i32) (x1 : Vec F S4 .i32) (x2 : Vec F S4 .i32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) :
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ hbPt0 c hbM0_2 fh2 ∗ hbPt0 c hbM0_3 fh3 ∗ hbPt0 c hbM0_4 fh4 ∗ owes (c : Thread nD τ) 0 W
            ∗ (iprop(owns (c : Thread nD τ) arg0 fullShare x0 ∗ owns (c : Thread nD τ) arg1 fullShare x1 ∗ owns (c : Thread nD τ) arg2 fullShare x2 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ hbPt0 c hbM0_2 fh2 ∗ hbPt0 c hbM0_3 fh3 ∗ hbPt0 c hbM0_4 fh4 ∗ (∃ W', owes (c : Thread nD τ) 0 W')) -∗ K ⟨⟩))
          ⊢ wp frame (wpE (defs₀ (F := F)) Variants.none c none) Set.univ (cc0_swa_decode arg0 harg0 arg1 harg1 arg2 harg2 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg8 harg8 arg9 harg9 arg10 harg10 arg11 harg11 arg12 harg12 arg13 harg13 arg14 harg14 arg15 harg15 arg16 harg16 arg17 harg17 cc0_scratch5 cc0_scratch6 cc0_scratch7) K := by
    intro W K
    simp only [cc0_swa_decode_eq_skeleton]; unfold cc0_swa_decode_skel
    simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hq5, Hq6, Hq7, Hq8, Hq9, Hq10, Hh0, Hh1, Hh2, Hh3, Hh4, HW, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hh0]; · iexact Hh0
    isplitl [Hh1]; · iexact Hh1
    isplitl [Hh2]; · iexact Hh2
    isplitl [Hh3]; · iexact Hh3
    isplitl [Hh4]; · iexact Hh4
    iexists _; iexact HW

end Cert.Kernel.Run

end
-- ==== Proof.KFrame.Frame.lean ====
/- The kernel's frame, last part: the body's obligation, the run, and the frame itself: the program runs to its end, leaves its
   arguments as they were and every semaphore at zero. Nothing is said here of what the outputs hold. -/
module

public import proofs.«01_k».proof.Proof.KFrame.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (3, 4, 5, 6, 7): nothing reads what the kernel leaves in them, so nothing
    of it is named (Lib/Pipeline/Dat.lean `Dat.toRForget`). -/
def forgets0 : Fin 8 → Bool := fun w => w.val == 3 || w.val == 4 || w.val == 5 || w.val == 6 || w.val == 7

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1200000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    after0_0, after0_1, after0_2]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4⟩, Hg, ⟨Hq0, Hq1, Hq2, Hq3, Hq4, Hq5, Hq6, Hq7, Hq8, Hq9, Hq10⟩, ⟨Hh0, Hh1, Hh2, Hh3, Hh4⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c _ _ _ _ _ _ _ _ _ _ _ _ _ _ _ _ _ _ _ _ _ _ _ _ _ _ (iblk m c 0 t) (iblk m c 1 t) (iblk m c 2 t) (V m c main_arg0) (V m c main_arg1) (V m c main_arg2) (V m c main_arg3) (V m c main_arg4)) W _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hh0]; · iexact Hh0
  isplitl [Hh1]; · iexact Hh1
  isplitl [Hh2]; · iexact Hh2
  isplitl [Hh3]; · iexact Hh3
  isplitl [Hh4]; · iexact Hh4
  isplitl [HW]; · iexact HW
  iintro ⟨H0, H1, H2, H3, H4, H5, H6, H7, HS0, HS1, HS2, HS3, HS4, Hq0, Hq1, Hq2, Hq3, Hq4, Hq5, Hq6, Hq7, Hq8, Hq9, Hq10, Hh0, Hh1, Hh2, Hh3, Hh4, ⟨%W', HW'⟩⟩
  isplitl [HS0 HS1 HS2 HS3 HS4 Hg Hq0 Hq1 Hq2 Hq3 Hq4 Hq5 Hq6 Hq7 Hq8 Hq9 Hq10 Hh0 Hh1 Hh2 Hh3 Hh4]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4 Hq5 Hq6 Hq7 Hq8 Hq9 Hq10]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [Hh0]; · iexact Hh0
    isplitl [Hh1]; · iexact Hh1
    isplitl [Hh2]; · iexact Hh2
    isplitl [Hh3]; · iexact Hh3
    iexact Hh4
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 3, 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F`; Proof.lean takes it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Run

end
-- ==== Proof.Run.Kit.lean ====
/- What the run of the kernel is stated over: the arrays when the region is entered, each window's block, the
   staging and scratch memrefs, the body's own DMA cells, and its operands left in HBM. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 0).trans (((dats 0 c).arrAt_in 0 rfl _).trans ((hA c 0).trans (V_main_arg5 m c))),
      ((h c).1 1).trans (((dats 0 c).arrAt_in 1 rfl _).trans ((hA c 1).trans (V_main_arg6 m c))),
      ((h c).1 2).trans (((dats 0 c).arrAt_in 2 rfl _).trans ((hA c 2).trans (V_main_arg7 m c)))⟩) h

/-! ## The kernel body on any staging memrefs: a subtype the run finds -/

/-- One staging buffer of output window 3, through which its contents are stated (`View.read_writes_of_cover`: the
    choice does not matter). -/
abbrev VO0_3 : View sig .tc .vmem S4x4x32x128 .bf16 := (Memref.whole cc0_stg3_0 : Memref sig .tc .vmem S4x4x32x128 .bf16).view
/-- One staging buffer of output window 4, through which its contents are stated (`View.read_writes_of_cover`: the
    choice does not matter). -/
abbrev VO0_4 : View sig .tc .vmem S4x4x4x128 .fp8e4m3 := (Memref.whole cc0_stg4_0 : Memref sig .tc .vmem S4x4x4x128 .fp8e4m3).view
/-- One staging buffer of output window 5, through which its contents are stated (`View.read_writes_of_cover`: the
    choice does not matter). -/
abbrev VO0_5 : View sig .tc .smem S4 .f32 := (Memref.whole cc0_stg5_0 : Memref sig .tc .smem S4 .f32).view
/-- One staging buffer of output window 6, through which its contents are stated (`View.read_writes_of_cover`: the
    choice does not matter). -/
abbrev VO0_6 : View sig .tc .vmem S4x4x4x128 .fp8e4m3 := (Memref.whole cc0_stg6_0 : Memref sig .tc .vmem S4x4x4x128 .fp8e4m3).view
/-- One staging buffer of output window 7, through which its contents are stated (`View.read_writes_of_cover`: the
    choice does not matter). -/
abbrev VO0_7 : View sig .tc .smem S4 .f32 := (Memref.whole cc0_stg7_0 : Memref sig .tc .smem S4 .f32).view
/-- Each window's current staging memref at point `t`, spelled as the pipeline passes it (`bodyAt0`), and its wholeness. -/
abbrev ms0_0 (t : Fin cfg0.N) : Memref sig .tc .smem S4 .i32 := win0_0.stage (cfg0.slots t 0)
abbrev hs0_0 (t : Fin cfg0.N) : (ms0_0 t).IsWhole := hstage0_0 0
abbrev ms0_1 (t : Fin cfg0.N) : Memref sig .tc .smem S4 .i32 := win0_1.stage (cfg0.slots t 1)
abbrev hs0_1 (t : Fin cfg0.N) : (ms0_1 t).IsWhole := hstage0_1 0
abbrev ms0_2 (t : Fin cfg0.N) : Memref sig .tc .smem S4 .i32 := win0_2.stage (cfg0.slots t 2)
abbrev hs0_2 (t : Fin cfg0.N) : (ms0_2 t).IsWhole := hstage0_2 0
abbrev ms0_3 (t : Fin cfg0.N) : Memref sig .tc .vmem S4x4x32x128 .bf16 := win0_3.stage (cfg0.slots t 3)
abbrev hs0_3 (t : Fin cfg0.N) : (ms0_3 t).IsWhole := hstage0_3 0
abbrev ms0_4 (t : Fin cfg0.N) : Memref sig .tc .vmem S4x4x4x128 .fp8e4m3 := win0_4.stage (cfg0.slots t 4)
abbrev hs0_4 (t : Fin cfg0.N) : (ms0_4 t).IsWhole := hstage0_4 0
abbrev ms0_5 (t : Fin cfg0.N) : Memref sig .tc .smem S4 .f32 := win0_5.stage (cfg0.slots t 5)
abbrev hs0_5 (t : Fin cfg0.N) : (ms0_5 t).IsWhole := hstage0_5 0
abbrev ms0_6 (t : Fin cfg0.N) : Memref sig .tc .vmem S4x4x4x128 .fp8e4m3 := win0_6.stage (cfg0.slots t 6)
abbrev hs0_6 (t : Fin cfg0.N) : (ms0_6 t).IsWhole := hstage0_6 0
abbrev ms0_7 (t : Fin cfg0.N) : Memref sig .tc .smem S4 .f32 := win0_7.stage (cfg0.slots t 7)
abbrev hs0_7 (t : Fin cfg0.N) : (ms0_7 t).IsWhole := hstage0_7 0
/-- The scratch operands: whole scoped buffers of the kernel's own, passed beside the windows. -/
abbrev scM0_0 : Memref sig .tc .vmem S4x1024x4x128 .fp8e4m3 := Memref.whole cc0_scratch0
abbrev scM0_1 : Memref sig .tc .vmem S4x1024x4x128 .fp8e4m3 := Memref.whole cc0_scratch1
abbrev scM0_2 : Memref sig .tc .vmem S4x4x32x128 .bf16 := Memref.whole cc0_scratch2
abbrev scM0_3 : Memref sig .tc .vmem S4x4x4x128 .bf16 := Memref.whole cc0_scratch3
abbrev scM0_4 : Memref sig .tc .vmem S4x4x4x128 .bf16 := Memref.whole cc0_scratch4
/-- The operands left in HBM that the body copies into scratch itself, whole. -/
abbrev hbM0_0 : Memref sig .tc .hbm S4x4x32x128 .bf16 := Memref.whole main_arg0
abbrev hbM0_1 : Memref sig .tc .hbm S4x4x4x128 .bf16 := Memref.whole main_arg1
abbrev hbM0_2 : Memref sig .tc .hbm S4x4x4x128 .bf16 := Memref.whole main_arg2
abbrev hbM0_3 : Memref sig .tc .hbm S4x131072x4x128 .fp8e4m3 := Memref.whole main_arg3
abbrev hbM0_4 : Memref sig .tc .hbm S4x131072x4x128 .fp8e4m3 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 11 → SemLoc sig := fun j => (![SemLoc.dma 8, SemLoc.dma 9, SemLoc.dma 10, SemLoc.dma 11, SemLoc.dma 12, SemLoc.dma 13, SemLoc.dma 14, SemLoc.dma 15, SemLoc.dma 16, SemLoc.dma 17, SemLoc.dma 18] : Fin 11 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10] (by decide) (by decide)]; rfl
/-- The HBM operands the body moves, as references: unscoped, no window's array (`Pipeline.restRefs`). -/
def H0 : Finset (Ref sig .tc) := {main_arg0, main_arg1, main_arg2, main_arg3, main_arg4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0) ∗ hbPt0 c hbM0_1 (V m c main_arg1) ∗ hbPt0 c hbM0_2 (V m c main_arg2) ∗ hbPt0 c hbM0_3 (V m c main_arg3) ∗ hbPt0 c hbM0_4 (V m c main_arg4)) := by
  rw [BI.bigSep_eq_bigSepL_of_eq [main_arg0, main_arg1, main_arg2, main_arg3, main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg0) ∗ hbPt0 c hbM0_1 (V m c main_arg1) ∗ hbPt0 c hbM0_2 (V m c main_arg2) ∗ hbPt0 c hbM0_3 (V m c main_arg3) ∗ hbPt0 c hbM0_4 (V m c main_arg4))) := by
  rw [Pipeline.ΦD_eq, scopedRest0_eq, ownSems00_eq, hbmPts0_eq]; simp only [scM0_0, scM0_1, scM0_2, scM0_3, scM0_4, owns_whole]; try rfl

end Cert.KernelIdeal.Run

end
-- ==== Proof.Run.Body.lean ====
/- The run of the kernel's body from given contents of the two cache scratch buffers: the contents of its five
   outputs as lists of stores. -/
module

public import proofs.«01_k».proof.Proof.Run.Kit

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1536000 in set_option sl_exec.dmaWindow true in set_option sl_exec.dmaWindowSet true in
/-- What the body's stores leave in each output's staging memref, as pieces (last first), WITH the
    proof that on whole staging memrefs — the inputs' at their contents, the other outputs' at
    anything, the scratch buffers at anything, the HBM operands it copies whole at their launch contents `fh·`, its DMA cells at zero and the core's `owes`, the body runs to the continuation holding the inputs' as they were,
    a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .smem S4 .i32) (harg0 : arg0.IsWhole) (arg1 : Memref sig .tc .smem S4 .i32) (harg1 : arg1.IsWhole) (arg2 : Memref sig .tc .smem S4 .i32) (harg2 : arg2.IsWhole) (arg8 : Memref sig .tc .vmem S4x4x32x128 .bf16) (harg8 : arg8.IsWhole) (arg9 : Memref sig .tc .vmem S4x4x4x128 .fp8e4m3) (harg9 : arg9.IsWhole) (arg10 : Memref sig .tc .smem S4 .f32) (harg10 : arg10.IsWhole) (arg11 : Memref sig .tc .vmem S4x4x4x128 .fp8e4m3) (harg11 : arg11.IsWhole) (arg12 : Memref sig .tc .smem S4 .f32) (harg12 : arg12.IsWhole) (arg13 : Memref sig .tc .vmem S4x1024x4x128 .fp8e4m3) (harg13 : arg13.IsWhole) (arg14 : Memref sig .tc .vmem S4x1024x4x128 .fp8e4m3) (harg14 : arg14.IsWhole) (arg15 : Memref sig .tc .vmem S4x4x32x128 .bf16) (harg15 : arg15.IsWhole) (arg16 : Memref sig .tc .vmem S4x4x4x128 .bf16) (harg16 : arg16.IsWhole) (arg17 : Memref sig .tc .vmem S4x4x4x128 .bf16) (harg17 : arg17.IsWhole)
    (x0 : Vec F S4 .i32) (x1 : Vec F S4 .i32) (x2 : Vec F S4 .i32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fs0 : HbBuf0 (F := F) c arg13) (fs1 : HbBuf0 (F := F) c arg14) :
    Σ' (L3 : List (View.Piece (Elt F) S4x4x32x128 .bf16)), Σ' (L4 : List (View.Piece (Elt F) S4x4x4x128 .fp8e4m3)), Σ' (L5 : List (View.Piece (Elt F) S4 .f32)), Σ' (L6 : List (View.Piece (Elt F) S4x4x4x128 .fp8e4m3)), { L7 : List (View.Piece (Elt F) S4 .f32) //
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (arg13.view.loc (c : Thread nD τ) ↦[arg13.view.set]{fullShare} fs0) ∗ (arg14.view.loc (c : Thread nD τ) ↦[arg14.view.set]{fullShare} fs1) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ hbPt0 c hbM0_2 fh2 ∗ hbPt0 c hbM0_3 fh3 ∗ hbPt0 c hbM0_4 fh4 ∗ owes (c : Thread nD τ) 0 W
            ∗ (iprop(owns (c : Thread nD τ) arg0 fullShare x0 ∗ owns (c : Thread nD τ) arg1 fullShare x1 ∗ owns (c : Thread nD τ) arg2 fullShare x2 ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ hbPt0 c hbM0_2 fh2 ∗ hbPt0 c hbM0_3 fh3 ∗ hbPt0 c hbM0_4 fh4 ∗ (∃ W', owes (c : Thread nD τ) 0 W')) -∗ K ⟨⟩))
          ⊢ wp frame (wpE (defs₀ (F := F)) Variants.none c none) Set.univ (cc0_swa_decode arg0 harg0 arg1 harg1 arg2 harg2 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg8 harg8 arg9 harg9 arg10 harg10 arg11 harg11 arg12 harg12 arg13 harg13 arg14 harg14 arg15 harg15 arg16 harg16 arg17 harg17 cc0_scratch5 cc0_scratch6 cc0_scratch7) K } := by
  refine ⟨?_, ?_, ?_, ?_, ?_, fun W K => ?run⟩
  case run =>
    simp only [cc0_swa_decode_eq_skeleton]; unfold cc0_swa_decode_skel
    simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, HS0, HS1, ⟨%ds2, %fs2, -, HS2⟩, ⟨%ds3, %fs3, -, HS3⟩, ⟨%ds4, %fs4, -, HS4⟩, Hq0, Hq1, Hq2, Hq3, Hq4, Hq5, Hq6, Hq7, Hq8, Hq9, Hq10, Hh0, Hh1, Hh2, Hh3, Hh4, HW, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hh0]; · iexact Hh0
    isplitl [Hh1]; · iexact Hh1
    isplitl [Hh2]; · iexact Hh2
    isplitl [Hh3]; · iexact Hh3
    isplitl [Hh4]; · iexact Hh4
    iexists _; iexact HW

end Cert.KernelIdeal.Run

end
-- ==== Proof.Run.Blk.lean ====
/- One block of the attention kernel as a function of its inputs: the kernel's own operations on one batch row and one
   pair of heads, named stage by stage. -/
module

public import proofs.«01_k».proof.Proof.Gen.KernelIdeal

@[expose] public section

set_option maxRecDepth 16384

noncomputable section

namespace Cert.KernelIdeal.Blk

open Cert.KernelIdeal Cert.KernelIdeal.Gen Idealize.ShloMosaic

variable {F : FTy → Type} [FloatOps F] [Named F]

/-- The lanes that hold a new token already visible at the step: lane `4u` with `u` at most the step. -/
def isNew : IVec S4x8x128 1 :=
  andi (cmpi .eq (andi (iota .tc S4x8x128 32 [2] iota_S4x8x128_d2_w32) (broadcast S4x8x128 3#32)) (broadcast S4x8x128 0#32))
    (cmpi .sle (iota .tc S4x8x128 32 [2] iota_S4x8x128_d2_w32)
      (muli (broadcast S4x8x128 4#32) (iota .tc S4x8x128 32 [0] iota_S4x8x128_d0_w32)))

/-- The cached window in slot order: slot `4i + j` is token `i + 256j`. -/
def split (x : FVec F S1024x4x128 .fp8e4m3) : FVec F S1024x4x128 .fp8e4m3 :=
  shapeCast S1024x4x128 (transpose S256x4x4x128 [1, 0, 2, 3] (shapeCast S4x256x4x128 x shapeCasts_S1024x4x128_S4x256x4x128)
    transposes_S4x256x4x128_p1_0_2_3_S256x4x4x128) shapeCasts_S256x4x4x128_S1024x4x128

/-- One head of a window. -/
def head1024 (h : Fin 4) (x : FVec F S1024x4x128 .fp8e4m3) : FVec F S1024x128 .fp8e4m3 :=
  match h with
  | 0 => shapeCast S1024x128 (extractStridedSlice S1024x1x128 ![0, 0, 0] x slices_S1024x4x128_o0_0_0_S1024x1x128) shapeCasts_S1024x1x128_S1024x128
  | 1 => shapeCast S1024x128 (extractStridedSlice S1024x1x128 ![0, 1, 0] x slices_S1024x4x128_o0_1_0_S1024x1x128) shapeCasts_S1024x1x128_S1024x128
  | 2 => shapeCast S1024x128 (extractStridedSlice S1024x1x128 ![0, 2, 0] x slices_S1024x4x128_o0_2_0_S1024x1x128) shapeCasts_S1024x1x128_S1024x128
  | 3 => shapeCast S1024x128 (extractStridedSlice S1024x1x128 ![0, 3, 0] x slices_S1024x4x128_o0_3_0_S1024x1x128) shapeCasts_S1024x1x128_S1024x128

/-- The two heads of a pair side by side, of the cached window in slot order. -/
def pairOld (h h' : Fin 4) (x : FVec F S1024x4x128 .fp8e4m3) : FVec F S1024x256 .fp8e4m3 :=
  concatenate S1024x256 1 [⟨S1024x128, head1024 h (split x)⟩, ⟨S1024x128, head1024 h' (split x)⟩] concatenates_S1024x128_S1024x128_S1024x256_d1

/-- The new tokens' codes at slots `4u`, zero elsewhere. -/
def newRows (x : FVec F S4x4x128 .fp8e4m3) : FVec F S32x4x128 .fp8e4m3 :=
  concatenate S32x4x128 0 [⟨S16x4x128, shapeCast S16x4x128
      (concatenate S4x4x4x128 1 [⟨S4x1x4x128, shapeCast S4x1x4x128 x shapeCasts_S4x4x128_S4x1x4x128⟩,
        ⟨S4x3x4x128, broadcast S4x3x4x128 (FloatOps.ofBits .fp8e4m3 0#8 : F .fp8e4m3)⟩] concatenates_S4x1x4x128_S4x3x4x128_S4x4x4x128_d1)
      shapeCasts_S4x4x4x128_S16x4x128⟩,
    ⟨S16x4x128, broadcast S16x4x128 (FloatOps.ofBits .fp8e4m3 0#8 : F .fp8e4m3)⟩] concatenates_S16x4x128_S16x4x128_S32x4x128_d0

/-- One head of the new tokens' rows. -/
def head32 (h : Fin 4) (x : FVec F S32x4x128 .fp8e4m3) : FVec F S32x128 .fp8e4m3 :=
  match h with
  | 0 => shapeCast S32x128 (extractStridedSlice S32x1x128 ![0, 0, 0] x slices_S32x4x128_o0_0_0_S32x1x128) shapeCasts_S32x1x128_S32x128
  | 1 => shapeCast S32x128 (extractStridedSlice S32x1x128 ![0, 1, 0] x slices_S32x4x128_o0_1_0_S32x1x128) shapeCasts_S32x1x128_S32x128
  | 2 => shapeCast S32x128 (extractStridedSlice S32x1x128 ![0, 2, 0] x slices_S32x4x128_o0_2_0_S32x1x128) shapeCasts_S32x1x128_S32x128
  | 3 => shapeCast S32x128 (extractStridedSlice S32x1x128 ![0, 3, 0] x slices_S32x4x128_o0_3_0_S32x1x128) shapeCasts_S32x1x128_S32x128

/-- The two heads of a pair side by side, of the new tokens, filled up with zero rows. -/
def pairNew (h h' : Fin 4) (x : FVec F S4x4x128 .fp8e4m3) : FVec F S128x256 .fp8e4m3 :=
  concatenate S128x256 0 [⟨S32x256, concatenate S32x256 1 [⟨S32x128, head32 h (newRows x)⟩, ⟨S32x128, head32 h' (newRows x)⟩]
      concatenates_S32x128_S32x128_S32x256_d1⟩,
    ⟨S96x256, broadcast S96x256 (FloatOps.ofBits .fp8e4m3 0#8 : F .fp8e4m3)⟩] concatenates_S32x256_S96x256_S128x256_d0

/-- The queries of the first head of the pair. -/
def lowRows : IVec S64x128 1 :=
  cmpi .slt (andi (iota .tc S64x128 32 [0] iota_S64x128_d0_w32) (broadcast S64x128 15#32)) (broadcast S64x128 8#32)

/-- The queries, each head's in its own half of the contraction and zero in the other. -/
def qPair (q : FVec F S4x16x128 .bf16) : FVec F S64x256 .bf16 :=
  concatenate S64x256 1
    [⟨S64x128, select lowRows (shapeCast S64x128 q shapeCasts_S4x16x128_S64x128) (broadcast S64x128 (FloatOps.ofBits .bf16 0#16 : F .bf16))⟩,
     ⟨S64x128, select lowRows (broadcast S64x128 (FloatOps.ofBits .bf16 0#16 : F .bf16)) (shapeCast S64x128 q shapeCasts_S4x16x128_S64x128)⟩]
    concatenates_S64x128_S64x128_S64x256_d1

/-- The raw scores of the cached slots. -/
def sOld (q : FVec F S4x16x128 .bf16) (k : FVec F S1024x256 .fp8e4m3) : FVec F S4x2x8x1024 .f32 :=
  shapeCast S4x2x8x1024 (matmul dot_S64x256_S1024x256_S64x1024_1_1_0_0_n_n none (qPair q) k (constant S64x1024 .f32 0#32)) shapeCasts_S64x1024_S4x2x8x1024

/-- The raw scores of the new tokens. -/
def sNew (q : FVec F S4x16x128 .bf16) (k : FVec F S128x256 .fp8e4m3) : FVec F S4x2x8x128 .f32 :=
  shapeCast S4x2x8x128 (matmul dot_S64x256_S128x256_S64x128_1_1_0_0_n_n none (qPair q) k (constant S64x128 .f32 0#32)) shapeCasts_S64x128_S4x2x8x128

/-- One head's scores over the 1024 slots from its new and its cached scores. -/
def score (n o : FVec F S4x8x128 .f32) (r : FVec F S4x8x896 .f32) : FVec F S4x8x1024 .f32 :=
  concatenate S4x8x1024 2 [⟨S4x8x128, select isNew n (select isNew (broadcast S4x8x128 (Scalar.ofBits .f32 0xFF800000#32 : F .f32)) o)⟩, ⟨S4x8x896, r⟩]
    concatenates_S4x8x128_S4x8x896_S4x8x1024_d2

/-- The pair's first head's scores. -/
def score0 (n : FVec F S4x2x8x128 .f32) (o : FVec F S4x2x8x1024 .f32) : FVec F S4x8x1024 .f32 :=
  score (shapeCast S4x8x128 (extractStridedSlice S4x1x8x128 ![0, 0, 0, 0] n slices_S4x2x8x128_o0_0_0_0_S4x1x8x128) shapeCasts_S4x1x8x128_S4x8x128)
    (shapeCast S4x8x128 (extractStridedSlice S4x1x8x128 ![0, 0, 0, 0] o slices_S4x2x8x1024_o0_0_0_0_S4x1x8x128) shapeCasts_S4x1x8x128_S4x8x128)
    (shapeCast S4x8x896 (extractStridedSlice S4x1x8x896 ![0, 0, 0, 128] o slices_S4x2x8x1024_o0_0_0_128_S4x1x8x896) shapeCasts_S4x1x8x896_S4x8x896)

/-- The pair's second head's scores. -/
def score1 (n : FVec F S4x2x8x128 .f32) (o : FVec F S4x2x8x1024 .f32) : FVec F S4x8x1024 .f32 :=
  score (shapeCast S4x8x128 (extractStridedSlice S4x1x8x128 ![0, 1, 0, 0] n slices_S4x2x8x128_o0_1_0_0_S4x1x8x128) shapeCasts_S4x1x8x128_S4x8x128)
    (shapeCast S4x8x128 (extractStridedSlice S4x1x8x128 ![0, 1, 0, 0] o slices_S4x2x8x1024_o0_1_0_0_S4x1x8x128) shapeCasts_S4x1x8x128_S4x8x128)
    (shapeCast S4x8x896 (extractStridedSlice S4x1x8x896 ![0, 1, 0, 128] o slices_S4x2x8x1024_o0_1_0_128_S4x1x8x896) shapeCasts_S4x1x8x896_S4x8x896)

/-- The exponentials of one head's scores, the largest taken off. -/
def expo (c : F .f32) (s : FVec F S4x8x1024 .f32) : FVec F S4x8x1024 .f32 :=
  exp2 (mulf (subf s (broadcastTo S4x8x1024 (shapeCast S4x8x1 (multiReduction .maximumf [2] S4x8 s 0xFF800000#32 reduces_S4x8x1024_S4x8 (.inl rfl) rfl)
    shapeCasts_S4x8_S4x8x1) broadcasts_S4x8x1_S4x8x1024)) (broadcast S4x8x1024 c))

/-- One head's probabilities from its exponentials, the value scale multiplied in. -/
def probOf (v : F .f32) (e : FVec F S4x8x1024 .f32) : FVec F S4x8x1024 .f32 :=
  mulf e (broadcastTo S4x8x1024 (divf (broadcast S4x8x1 v)
    (shapeCast S4x8x1 (multiReduction .add [2] S4x8 e 0x00000000#32 reduces_S4x8x1024_S4x8 (.inl rfl) rfl) shapeCasts_S4x8_S4x8x1)) broadcasts_S4x8x1_S4x8x1024)

/-- One head's probabilities of the cached slots: zero where a new token stands. -/
def pOld (p : FVec F S4x8x1024 .f32) : FVec F S4x1x8x1024 .f32 :=
  shapeCast S4x1x8x1024 (concatenate S4x8x1024 2
    [⟨S4x8x128, select isNew (broadcast S4x8x128 (Scalar.ofBits .f32 0x00000000#32 : F .f32)) (extractStridedSlice S4x8x128 ![0, 0, 0] p slices_S4x8x1024_o0_0_0_S4x8x128)⟩,
     ⟨S4x8x896, extractStridedSlice S4x8x896 ![0, 0, 128] p slices_S4x8x1024_o0_0_128_S4x8x896⟩] concatenates_S4x8x128_S4x8x896_S4x8x1024_d2)
    shapeCasts_S4x8x1024_S4x1x8x1024

/-- One head's probabilities of the new tokens: zero elsewhere. -/
def pNew (p : FVec F S4x8x1024 .f32) : FVec F S4x1x8x128 .f32 :=
  shapeCast S4x1x8x128 (select isNew (extractStridedSlice S4x8x128 ![0, 0, 0] p slices_S4x8x1024_o0_0_0_S4x8x128)
    (broadcast S4x8x128 (Scalar.ofBits .f32 0x00000000#32 : F .f32))) shapeCasts_S4x8x128_S4x1x8x128

/-- The weighted sums of the values of both heads' slots, for both heads' probabilities. -/
def mixed (p0 p1 : FVec F S4x8x1024 .f32) (vo : FVec F S1024x256 .fp8e4m3) (vn : FVec F S128x256 .fp8e4m3) : FVec F S64x256 .f32 :=
  addf
    (matmul dot_S64x1024_S1024x256_S64x256_1_0_0_1_n_n none
      (truncf .bf16 (shapeCast S64x1024 (concatenate S4x2x8x1024 1 [⟨S4x1x8x1024, pOld p0⟩, ⟨S4x1x8x1024, pOld p1⟩]
        concatenates_S4x1x8x1024_S4x1x8x1024_S4x2x8x1024_d1) shapeCasts_S4x2x8x1024_S64x1024) bitsLt_bf16_f32) vo (constant S64x256 .f32 0#32))
    (matmul dot_S64x128_S128x256_S64x256_1_0_0_1_n_n none
      (truncf .bf16 (shapeCast S64x128 (concatenate S4x2x8x128 1 [⟨S4x1x8x128, pNew p0⟩, ⟨S4x1x8x128, pNew p1⟩]
        concatenates_S4x1x8x128_S4x1x8x128_S4x2x8x128_d1) shapeCasts_S4x2x8x128_S64x128) bitsLt_bf16_f32) vn (constant S64x256 .f32 0#32))

/-- Each head's own half of the weighted sums, as the block written. -/
def gather (o : FVec F S64x256 .f32) : FVec F S1x4x16x128 .bf16 :=
  shapeCast S1x4x16x128 (truncf .bf16 (shapeCast S4x16x128 (concatenate S4x2x8x128 1
    [⟨S4x1x8x128, shapeCast S4x1x8x128 (shapeCast S4x8x128 (extractStridedSlice S4x1x8x128 ![0, 0, 0, 0] (shapeCast S4x2x8x256 o shapeCasts_S64x256_S4x2x8x256)
        slices_S4x2x8x256_o0_0_0_0_S4x1x8x128) shapeCasts_S4x1x8x128_S4x8x128) shapeCasts_S4x8x128_S4x1x8x128⟩,
     ⟨S4x1x8x128, shapeCast S4x1x8x128 (shapeCast S4x8x128 (extractStridedSlice S4x1x8x128 ![0, 1, 0, 128] (shapeCast S4x2x8x256 o shapeCasts_S64x256_S4x2x8x256)
        slices_S4x2x8x256_o0_1_0_128_S4x1x8x128) shapeCasts_S4x1x8x128_S4x8x128) shapeCasts_S4x8x128_S4x1x8x128⟩]
    concatenates_S4x1x8x128_S4x1x8x128_S4x2x8x128_d1) shapeCasts_S4x2x8x128_S4x16x128) bitsLt_bf16_f32) shapeCasts_S4x16x128_S1x4x16x128

/-- One head's probabilities from its scores. -/
def prob (c v : F .f32) (s : FVec F S4x8x1024 .f32) : FVec F S4x8x1024 .f32 := probOf v (expo c s)

/-- THE BLOCK of one batch row and the pair of heads `h`, `h'`: from the pair's queries `q`, the row's cached windows `kw`, `vw`,
    its new tokens' codes `kn`, `vn`, the two heads' exponent factors `c0`, `c1` and value scales `v0`, `v1`. -/
def blk (h h' : Fin 4) (q : FVec F S4x16x128 .bf16) (kw vw : FVec F S1024x4x128 .fp8e4m3) (kn vn : FVec F S4x4x128 .fp8e4m3)
    (c0 c1 v0 v1 : F .f32) : FVec F S1x4x16x128 .bf16 :=
  gather (mixed (prob c0 v0 (score0 (sNew q (pairNew h h' kn)) (sOld q (pairOld h h' kw))))
    (prob c1 v1 (score1 (sNew q (pairNew h h' kn)) (sOld q (pairOld h h' kw)))) (pairOld h h' vw) (pairNew h h' vn))

/-! ## The scales and the quantiser -/

/-- Two to the power `e`, its exponent field written directly. -/
def pow2 (e : BitVec 32) : F .f32 :=
  FloatOps.ofBits .f32 (Scalar.shli (Scalar.minsi 255#32 (Scalar.maxsi 0#32 (Scalar.addi e 127#32))) 23#32)

/-- A head's factor in the exponent: the key scale, the softmax scale and the base-two logarithm of `e`. -/
def cExp (e : BitVec 32) : F .f32 :=
  Scalar.mulf (Scalar.mulf (pow2 e) (FloatOps.ofBits .f32 1035273459#32 : F .f32)) (Named.named κ "log2_e" 1069066811#32)

/-- The four heads' inverse scales along the head axis. -/
def invVec (e : Fin 4 → BitVec 32) : FVec F S4x4x128 .f32 :=
  select (cmpi .eq (iota .tc S4x4x128 32 [1] iota_S4x4x128_d1_w32) (broadcast S4x4x128 0#32)) (broadcast S4x4x128 (pow2 (Scalar.subi 0#32 (e 0)) : F .f32))
    (select (cmpi .eq (iota .tc S4x4x128 32 [1] iota_S4x4x128_d1_w32) (broadcast S4x4x128 1#32)) (broadcast S4x4x128 (pow2 (Scalar.subi 0#32 (e 1)) : F .f32))
      (select (cmpi .eq (iota .tc S4x4x128 32 [1] iota_S4x4x128_d1_w32) (broadcast S4x4x128 2#32)) (broadcast S4x4x128 (pow2 (Scalar.subi 0#32 (e 2)) : F .f32))
        (broadcast S4x4x128 (pow2 (Scalar.subi 0#32 (e 3)) : F .f32))))

/-- The codes of one batch row's new tokens. -/
def quant (e : Fin 4 → BitVec 32) (x : FVec F S4x4x128 .bf16) : FVec F S4x4x128 .fp8e4m3 :=
  truncf .fp8e4m3 (minimumf (broadcast S4x4x128 (FloatOps.ofBits .f32 1138753536#32 : F .f32))
    (maximumf (broadcast S4x4x128 (FloatOps.ofBits .f32 3286237184#32 : F .f32)) (mulf (extf .f32 x bitsLt_bf16_f32) (invVec e)))) bitsLt_fp8e4m3_f32

end Cert.KernelIdeal.Blk

end
-- ==== Proof.Run.Win.lean ====
/- The cache scratch buffers after the four window copies: window `b` read back is what copy `b` delivered, whatever
   the buffer held before. -/
module

public import proofs.«01_k».proof.Proof.Gen.KernelIdeal
public import Idealize.ShloMosaic.Lib.Writes
public import Idealize.ShloMosaic.Lib.Pipeline.Value

@[expose] public section

set_option maxRecDepth 16384

noncomputable section

namespace Cert.KernelIdeal.Blk

open Cert.KernelIdeal Cert.KernelIdeal.Gen Idealize.ShloMosaic

variable {F : FTy → Type} [FloatOps F] [Named F]

/-- The scratch after the four copies, over any contents. -/
def copied (M : Memref sig .tc .vmem S4x1024x4x128 .fp8e4m3) (f : M.view.ty.Contents (Elt F)) (w0 w1 w2 w3 : S1024x4x128.Idx → Elt F .fp8e4m3) :
    M.view.ty.Contents (Elt F) :=
  View.write (Elt F) ((M.slice (Rect.unit ![3, 0, 0, 0] S1x1024x4x128.size inb_S4x1024x4x128_S1x1024x4x128_3_0_0_0) (fun _ => rfl)).squeeze S1024x4x128 squeezes_S1x1024x4x128_S1024x4x128).view
    (View.write (Elt F) ((M.slice (Rect.unit ![2, 0, 0, 0] S1x1024x4x128.size inb_S4x1024x4x128_S1x1024x4x128_2_0_0_0) (fun _ => rfl)).squeeze S1024x4x128 squeezes_S1x1024x4x128_S1024x4x128).view
      (View.write (Elt F) ((M.slice (Rect.unit ![1, 0, 0, 0] S1x1024x4x128.size inb_S4x1024x4x128_S1x1024x4x128_1_0_0_0) (fun _ => rfl)).squeeze S1024x4x128 squeezes_S1x1024x4x128_S1024x4x128).view
        (View.write (Elt F) ((M.slice (Rect.unit ![0, 0, 0, 0] S1x1024x4x128.size inb_S4x1024x4x128_S1x1024x4x128_0_0_0_0) (fun _ => rfl)).squeeze S1024x4x128 squeezes_S1x1024x4x128_S1024x4x128).view
          f w0 Finset.univ) w1 Finset.univ) w2 Finset.univ) w3 Finset.univ

/-- A copy's payload as a store at the window's rectangle. -/
def pay (w : S1024x4x128.Idx → Elt F .fp8e4m3) : S1x1024x4x128.Idx → Elt F .fp8e4m3 :=
  fun x => w ((Shape.reshapeEquiv squeezes_S1x1024x4x128_S1024x4x128.numel_eq).symm x)

/-- The four copies are four stores. -/
theorem copied_eq (M : Memref sig .tc .vmem S4x1024x4x128 .fp8e4m3) (f : M.view.ty.Contents (Elt F)) (w0 w1 w2 w3 : S1024x4x128.Idx → Elt F .fp8e4m3) :
    copied M f w0 w1 w2 w3 = M.view.writes (Elt F) f
      [⟨Rect.unit ![3, 0, 0, 0] S1x1024x4x128.size inb_S4x1024x4x128_S1x1024x4x128_3_0_0_0, pay w3⟩,
       ⟨Rect.unit ![2, 0, 0, 0] S1x1024x4x128.size inb_S4x1024x4x128_S1x1024x4x128_2_0_0_0, pay w2⟩,
       ⟨Rect.unit ![1, 0, 0, 0] S1x1024x4x128.size inb_S4x1024x4x128_S1x1024x4x128_1_0_0_0, pay w1⟩,
       ⟨Rect.unit ![0, 0, 0, 0] S1x1024x4x128.size inb_S4x1024x4x128_S1x1024x4x128_0_0_0_0, pay w0⟩] := by
  unfold copied
  have key : ∀ (r : Rect S4x1024x4x128) (h1 : ∀ a, r.stride a = 1) (hq : r.shape.Squeezes S1024x4x128) (g : M.view.ty.Contents (Elt F)) (w : S1024x4x128.Idx → Elt F .fp8e4m3),
      View.write (Elt F) ((M.slice r h1).squeeze S1024x4x128 hq).view g w Finset.univ
        = View.write (Elt F) (M.view.slice r) g (fun x => w ((Shape.reshapeEquiv hq.numel_eq).symm x)) Finset.univ := by
    intro r h1 hq g w
    exact View.write_reshape_univ (M.view.slice r) hq.numel_eq g w
  rw [key, key, key, key]
  rfl

/-- A store at another window leaves this one as it was. -/
theorem miss (M : Memref sig .tc .vmem S4x1024x4x128 .fp8e4m3) (f : M.view.ty.Contents (Elt F)) (n k : ℕ) (hnk : n ≠ k)
    (in1 : ∀ a, (![n, 0, 0, 0] : Fin 4 → ℕ) a + S1x1024x4x128.size a ≤ S4x1024x4x128.size a)
    (in2 : ∀ a, (![k, 0, 0, 0] : Fin 4 → ℕ) a + S1x1024x4x128.size a ≤ S4x1024x4x128.size a)
    (w : S1x1024x4x128.Idx → Elt F .fp8e4m3) (L : List (View.Piece (Elt F) S4x1024x4x128 .fp8e4m3)) (x : S1x1024x4x128.Idx) :
    M.view.read (Elt F) (M.view.writes (Elt F) f (⟨Rect.unit (s := S4x1024x4x128) ![n, 0, 0, 0] S1x1024x4x128.size in1, w⟩ :: L)) ((Rect.unit (s := S4x1024x4x128) ![k, 0, 0, 0] S1x1024x4x128.size in2).emb x)
      = M.view.read (Elt F) (M.view.writes (Elt F) f L) ((Rect.unit (s := S4x1024x4x128) ![k, 0, 0, 0] S1x1024x4x128.size in2).emb x) := by
  refine View.read_writes_cons_miss_of_axis M.view f _ L _ 0 n 1 rfl rfl rfl ?_
  have h0 : (x 0).val < 1 := (x 0).isLt
  have : (((Rect.unit (s := S4x1024x4x128) ![k, 0, 0, 0] S1x1024x4x128.size in2).emb x) 0).val = k + 1 * (x 0).val := rfl
  omega

theorem read_window3 (M : Memref sig .tc .vmem S4x1024x4x128 .fp8e4m3) (f : M.view.ty.Contents (Elt F)) (w0 w1 w2 w3 : S1024x4x128.Idx → Elt F .fp8e4m3) :
    shapeCast (s := S1x1024x4x128) S1024x4x128 (View.readAt (Elt F) M.view (Rect.unit (s := S4x1024x4x128) ![3, 0, 0, 0] S1x1024x4x128.size inb_S4x1024x4x128_S1x1024x4x128_3_0_0_0).toLoadRect (copied M f w0 w1 w2 w3))
      shapeCasts_S1x1024x4x128_S1024x4x128 = w3 := by
  rw [copied_eq]; funext y
  refine (View.read_writes_cons_emb M.view f _ _ _ _).trans ?_
  show w3 _ = w3 y
  exact congrArg w3 (Equiv.symm_apply_apply _ _)

theorem read_window2 (M : Memref sig .tc .vmem S4x1024x4x128 .fp8e4m3) (f : M.view.ty.Contents (Elt F)) (w0 w1 w2 w3 : S1024x4x128.Idx → Elt F .fp8e4m3) :
    shapeCast (s := S1x1024x4x128) S1024x4x128 (View.readAt (Elt F) M.view (Rect.unit (s := S4x1024x4x128) ![2, 0, 0, 0] S1x1024x4x128.size inb_S4x1024x4x128_S1x1024x4x128_2_0_0_0).toLoadRect (copied M f w0 w1 w2 w3))
      shapeCasts_S1x1024x4x128_S1024x4x128 = w2 := by
  rw [copied_eq]; funext y
  refine (miss M f 3 2 (by decide) _ inb_S4x1024x4x128_S1x1024x4x128_2_0_0_0 _ _ (Shape.reshapeEquiv _ y)).trans ?_
  refine (View.read_writes_cons_emb M.view f _ _ _ _).trans ?_
  show w2 _ = w2 y
  exact congrArg w2 (Equiv.symm_apply_apply _ _)

theorem read_window1 (M : Memref sig .tc .vmem S4x1024x4x128 .fp8e4m3) (f : M.view.ty.Contents (Elt F)) (w0 w1 w2 w3 : S1024x4x128.Idx → Elt F .fp8e4m3) :
    shapeCast (s := S1x1024x4x128) S1024x4x128 (View.readAt (Elt F) M.view (Rect.unit (s := S4x1024x4x128) ![1, 0, 0, 0] S1x1024x4x128.size inb_S4x1024x4x128_S1x1024x4x128_1_0_0_0).toLoadRect (copied M f w0 w1 w2 w3))
      shapeCasts_S1x1024x4x128_S1024x4x128 = w1 := by
  rw [copied_eq]; funext y
  refine (miss M f 3 1 (by decide) _ inb_S4x1024x4x128_S1x1024x4x128_1_0_0_0 _ _ (Shape.reshapeEquiv _ y)).trans ?_
  refine (miss M f 2 1 (by decide) _ inb_S4x1024x4x128_S1x1024x4x128_1_0_0_0 _ _ (Shape.reshapeEquiv _ y)).trans ?_
  refine (View.read_writes_cons_emb M.view f _ _ _ _).trans ?_
  show w1 _ = w1 y
  exact congrArg w1 (Equiv.symm_apply_apply _ _)

theorem read_window0 (M : Memref sig .tc .vmem S4x1024x4x128 .fp8e4m3) (f : M.view.ty.Contents (Elt F)) (w0 w1 w2 w3 : S1024x4x128.Idx → Elt F .fp8e4m3) :
    shapeCast (s := S1x1024x4x128) S1024x4x128 (View.readAt (Elt F) M.view (Rect.unit (s := S4x1024x4x128) ![0, 0, 0, 0] S1x1024x4x128.size inb_S4x1024x4x128_S1x1024x4x128_0_0_0_0).toLoadRect (copied M f w0 w1 w2 w3))
      shapeCasts_S1x1024x4x128_S1024x4x128 = w0 := by
  rw [copied_eq]; funext y
  refine (miss M f 3 0 (by decide) _ inb_S4x1024x4x128_S1x1024x4x128_0_0_0_0 _ _ (Shape.reshapeEquiv _ y)).trans ?_
  refine (miss M f 2 0 (by decide) _ inb_S4x1024x4x128_S1x1024x4x128_0_0_0_0 _ _ (Shape.reshapeEquiv _ y)).trans ?_
  refine (miss M f 1 0 (by decide) _ inb_S4x1024x4x128_S1x1024x4x128_0_0_0_0 _ _ (Shape.reshapeEquiv _ y)).trans ?_
  refine (View.read_writes_cons_emb M.view f _ _ _ _).trans ?_
  show w0 _ = w0 y
  exact congrArg w0 (Equiv.symm_apply_apply _ _)

end Cert.KernelIdeal.Blk

end
-- ==== Proof.Run.Pay.lean ====
/- What the kernel's body stores, in terms of its inputs alone: the five outputs' stores as the blocks, codes and scales
   of Blk.lean, at whatever contents the two cache scratch buffers started with. -/
module

public import proofs.«01_k».proof.Proof.Run.Body
public import proofs.«01_k».proof.Proof.Run.Blk
public import proofs.«01_k».proof.Proof.Run.Win

@[expose] public section

set_option maxRecDepth 16384

noncomputable section

namespace Cert.KernelIdeal.Run

open Cert.KernelIdeal Cert.KernelIdeal.Gen Cert.KernelIdeal.Blk Idealize.ShloMosaic Idealize.ShloMosaic.TcCoe Idealize.ShloMosaic.Tactic

variable {F : FTy → Type} [FloatOps F] [Named F]

/-- Word `b` of a four-word operand, as the body loads it. -/
def words (M : Memref sig .tc .smem S4 .i32) (hM : M.IsWhole) (x : Vec F S4 .i32) (b : Fin 4) : BitVec 32 :=
  match b with
  | 0 => View.readAt (Elt F) M.view (Rect.unit (s := S4) ![0] S1.size inb_S4_S1_0).toLoadRect (hM.unread x) (Shape.Idx.first (s := S1) (by decide))
  | 1 => View.readAt (Elt F) M.view (Rect.unit (s := S4) ![1] S1.size inb_S4_S1_1).toLoadRect (hM.unread x) (Shape.Idx.first (s := S1) (by decide))
  | 2 => View.readAt (Elt F) M.view (Rect.unit (s := S4) ![2] S1.size inb_S4_S1_2).toLoadRect (hM.unread x) (Shape.Idx.first (s := S1) (by decide))
  | 3 => View.readAt (Elt F) M.view (Rect.unit (s := S4) ![3] S1.size inb_S4_S1_3).toLoadRect (hM.unread x) (Shape.Idx.first (s := S1) (by decide))

/-- A window of a cache, as the copy reads it. -/
def window (ref : Memref sig .tc .hbm S4x131072x4x128 .fp8e4m3) (off : Fin 4 → ℕ) (inb : ∀ a, off a + S1x1024x4x128.size a ≤ S4x131072x4x128.size a)
    (f : ref.view.ty.Contents (Elt F)) : S1024x4x128.Idx → Elt F .fp8e4m3 :=
  View.read (Elt F) ((ref.slice (Rect.unit (s := S4x131072x4x128) off S1x1024x4x128.size inb) (fun _ => rfl)).squeeze S1024x4x128 squeezes_S1x1024x4x128_S1024x4x128).view f

/-- The key window of batch row `b`, its length `l`. -/
def kWin (c : Dev nD) (fh : HbBuf0 (F := F) c hbM0_3) (l : BitVec 32) (b : Fin 4) : S1024x4x128.Idx → Elt F .fp8e4m3 :=
  match b with
  | 0 => window (Memref.whole main_arg3) (k0_off1 l) (k0_off1_inb l (k0_chk1_all l)) fh
  | 1 => window (Memref.whole main_arg3) (k0_off2 l) (k0_off2_inb l (k0_chk2_all l)) fh
  | 2 => window (Memref.whole main_arg3) (k0_off3 l) (k0_off3_inb l (k0_chk3_all l)) fh
  | 3 => window (Memref.whole main_arg3) (k0_off4 l) (k0_off4_inb l (k0_chk4_all l)) fh

/-- The value window of batch row `b`, its length `l`. -/
def vWin (c : Dev nD) (fh : HbBuf0 (F := F) c hbM0_4) (l : BitVec 32) (b : Fin 4) : S1024x4x128.Idx → Elt F .fp8e4m3 :=
  match b with
  | 0 => window (Memref.whole main_arg4) (k0_off5 l) (k0_off5_inb l (k0_chk5_all l)) fh
  | 1 => window (Memref.whole main_arg4) (k0_off6 l) (k0_off6_inb l (k0_chk6_all l)) fh
  | 2 => window (Memref.whole main_arg4) (k0_off7 l) (k0_off7_inb l (k0_chk7_all l)) fh
  | 3 => window (Memref.whole main_arg4) (k0_off8 l) (k0_off8_inb l (k0_chk8_all l)) fh

variable (c : Dev nD) (arg0 : Memref sig .tc .smem S4 .i32) (harg0 : arg0.IsWhole) (arg1 : Memref sig .tc .smem S4 .i32) (harg1 : arg1.IsWhole) (arg2 : Memref sig .tc .smem S4 .i32) (harg2 : arg2.IsWhole)
  (arg9 : Memref sig .tc .vmem S4x4x4x128 .fp8e4m3) (arg11 : Memref sig .tc .vmem S4x4x4x128 .fp8e4m3) (arg13 : Memref sig .tc .vmem S4x1024x4x128 .fp8e4m3) (arg14 : Memref sig .tc .vmem S4x1024x4x128 .fp8e4m3)
  (arg15 : Memref sig .tc .vmem S4x4x32x128 .bf16) (arg16 : Memref sig .tc .vmem S4x4x4x128 .bf16) (arg17 : Memref sig .tc .vmem S4x4x4x128 .bf16)
  (x0 x1 x2 : Vec F S4 .i32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fs0 : HbBuf0 (F := F) c arg13) (fs1 : HbBuf0 (F := F) c arg14)

/-- The queries of row `b` and pair `p`, as the body loads them from the copy of the operand `q`. -/
def qPart (M : Memref sig .tc .vmem S4x4x32x128 .bf16) (q : S4x4x32x128.Idx → Elt F .bf16) (b : Fin 4) (p : Fin 2) : FVec F S4x16x128 .bf16 :=
  match b, p with
  | 0, 0 => shapeCast S4x16x128 (s := S1x4x16x128) (M.view.readCov [⟨Rect.whole S4x4x32x128, q⟩] (Rect.unit (s := S4x4x32x128) ![0, 0, 0, 0] S1x4x16x128.size inb_S4x4x32x128_S1x4x16x128_0_0_0_0).toLoadRect) shapeCasts_S1x4x16x128_S4x16x128
  | 0, 1 => shapeCast S4x16x128 (s := S1x4x16x128) (M.view.readCov [⟨Rect.whole S4x4x32x128, q⟩] (Rect.unit (s := S4x4x32x128) ![0, 0, 16, 0] S1x4x16x128.size inb_S4x4x32x128_S1x4x16x128_0_0_16_0).toLoadRect) shapeCasts_S1x4x16x128_S4x16x128
  | 1, 0 => shapeCast S4x16x128 (s := S1x4x16x128) (M.view.readCov [⟨Rect.whole S4x4x32x128, q⟩] (Rect.unit (s := S4x4x32x128) ![1, 0, 0, 0] S1x4x16x128.size inb_S4x4x32x128_S1x4x16x128_1_0_0_0).toLoadRect) shapeCasts_S1x4x16x128_S4x16x128
  | 1, 1 => shapeCast S4x16x128 (s := S1x4x16x128) (M.view.readCov [⟨Rect.whole S4x4x32x128, q⟩] (Rect.unit (s := S4x4x32x128) ![1, 0, 16, 0] S1x4x16x128.size inb_S4x4x32x128_S1x4x16x128_1_0_16_0).toLoadRect) shapeCasts_S1x4x16x128_S4x16x128
  | 2, 0 => shapeCast S4x16x128 (s := S1x4x16x128) (M.view.readCov [⟨Rect.whole S4x4x32x128, q⟩] (Rect.unit (s := S4x4x32x128) ![2, 0, 0, 0] S1x4x16x128.size inb_S4x4x32x128_S1x4x16x128_2_0_0_0).toLoadRect) shapeCasts_S1x4x16x128_S4x16x128
  | 2, 1 => shapeCast S4x16x128 (s := S1x4x16x128) (M.view.readCov [⟨Rect.whole S4x4x32x128, q⟩] (Rect.unit (s := S4x4x32x128) ![2, 0, 16, 0] S1x4x16x128.size inb_S4x4x32x128_S1x4x16x128_2_0_16_0).toLoadRect) shapeCasts_S1x4x16x128_S4x16x128
  | 3, 0 => shapeCast S4x16x128 (s := S1x4x16x128) (M.view.readCov [⟨Rect.whole S4x4x32x128, q⟩] (Rect.unit (s := S4x4x32x128) ![3, 0, 0, 0] S1x4x16x128.size inb_S4x4x32x128_S1x4x16x128_3_0_0_0).toLoadRect) shapeCasts_S1x4x16x128_S4x16x128
  | 3, 1 => shapeCast S4x16x128 (s := S1x4x16x128) (M.view.readCov [⟨Rect.whole S4x4x32x128, q⟩] (Rect.unit (s := S4x4x32x128) ![3, 0, 16, 0] S1x4x16x128.size inb_S4x4x32x128_S1x4x16x128_3_0_16_0).toLoadRect) shapeCasts_S1x4x16x128_S4x16x128

/-- A cache scratch buffer's window `b` after the four copies, as the body loads it. -/
def loaded (M : Memref sig .tc .vmem S4x1024x4x128 .fp8e4m3) (f : M.view.ty.Contents (Elt F)) (w : Fin 4 → S1024x4x128.Idx → Elt F .fp8e4m3) (b : Fin 4) :
    FVec F S1024x4x128 .fp8e4m3 :=
  match b with
  | 0 => shapeCast (s := S1x1024x4x128) S1024x4x128 (View.readAt (Elt F) M.view (Rect.unit (s := S4x1024x4x128) ![0, 0, 0, 0] S1x1024x4x128.size inb_S4x1024x4x128_S1x1024x4x128_0_0_0_0).toLoadRect (copied M f (w 0) (w 1) (w 2) (w 3))) shapeCasts_S1x1024x4x128_S1024x4x128
  | 1 => shapeCast (s := S1x1024x4x128) S1024x4x128 (View.readAt (Elt F) M.view (Rect.unit (s := S4x1024x4x128) ![1, 0, 0, 0] S1x1024x4x128.size inb_S4x1024x4x128_S1x1024x4x128_1_0_0_0).toLoadRect (copied M f (w 0) (w 1) (w 2) (w 3))) shapeCasts_S1x1024x4x128_S1024x4x128
  | 2 => shapeCast (s := S1x1024x4x128) S1024x4x128 (View.readAt (Elt F) M.view (Rect.unit (s := S4x1024x4x128) ![2, 0, 0, 0] S1x1024x4x128.size inb_S4x1024x4x128_S1x1024x4x128_2_0_0_0).toLoadRect (copied M f (w 0) (w 1) (w 2) (w 3))) shapeCasts_S1x1024x4x128_S1024x4x128
  | 3 => shapeCast (s := S1x1024x4x128) S1024x4x128 (View.readAt (Elt F) M.view (Rect.unit (s := S4x1024x4x128) ![3, 0, 0, 0] S1x1024x4x128.size inb_S4x1024x4x128_S1x1024x4x128_3_0_0_0).toLoadRect (copied M f (w 0) (w 1) (w 2) (w 3))) shapeCasts_S1x1024x4x128_S1024x4x128

/-- It is what copy `b` delivered. -/
theorem loaded_eq (M : Memref sig .tc .vmem S4x1024x4x128 .fp8e4m3) (f : M.view.ty.Contents (Elt F)) (w : Fin 4 → S1024x4x128.Idx → Elt F .fp8e4m3) :
    loaded M f w = w := by
  funext b
  match b with
  | 0 => exact read_window0 M f _ _ _ _
  | 1 => exact read_window1 M f _ _ _ _
  | 2 => exact read_window2 M f _ _ _ _
  | 3 => exact read_window3 M f _ _ _ _

/-- Row `b` of the new tokens, as the body loads it from the copy of the operand `x`. -/
def newRow (M : Memref sig .tc .vmem S4x4x4x128 .bf16) (x : S4x4x4x128.Idx → Elt F .bf16) (b : Fin 4) : FVec F S4x4x128 .bf16 :=
  match b with
  | 0 => shapeCast S4x4x128 (s := S1x4x4x128) (M.view.readCov [⟨Rect.whole S4x4x4x128, x⟩] (Rect.unit (s := S4x4x4x128) ![0, 0, 0, 0] S1x4x4x128.size inb_S4x4x4x128_S1x4x4x128_0_0_0_0).toLoadRect) shapeCasts_S1x4x4x128_S4x4x128
  | 1 => shapeCast S4x4x128 (s := S1x4x4x128) (M.view.readCov [⟨Rect.whole S4x4x4x128, x⟩] (Rect.unit (s := S4x4x4x128) ![1, 0, 0, 0] S1x4x4x128.size inb_S4x4x4x128_S1x4x4x128_1_0_0_0).toLoadRect) shapeCasts_S1x4x4x128_S4x4x128
  | 2 => shapeCast S4x4x128 (s := S1x4x4x128) (M.view.readCov [⟨Rect.whole S4x4x4x128, x⟩] (Rect.unit (s := S4x4x4x128) ![2, 0, 0, 0] S1x4x4x128.size inb_S4x4x4x128_S1x4x4x128_2_0_0_0).toLoadRect) shapeCasts_S1x4x4x128_S4x4x128
  | 3 => shapeCast S4x4x128 (s := S1x4x4x128) (M.view.readCov [⟨Rect.whole S4x4x4x128, x⟩] (Rect.unit (s := S4x4x4x128) ![3, 0, 0, 0] S1x4x4x128.size inb_S4x4x4x128_S1x4x4x128_3_0_0_0).toLoadRect) shapeCasts_S1x4x4x128_S4x4x128

/-- The codes' stores: row by row, the quantised rows `n b`. -/
def codePieces (n : Fin 4 → FVec F S4x4x128 .fp8e4m3) : List (View.Piece (Elt F) S4x4x4x128 .fp8e4m3) :=
  [⟨Rect.unit (s := S4x4x4x128) ![3, 0, 0, 0] S1x4x4x128.size inb_S4x4x4x128_S1x4x4x128_3_0_0_0, shapeCast S1x4x4x128 (n 3) shapeCasts_S4x4x128_S1x4x4x128⟩,
   ⟨Rect.unit (s := S4x4x4x128) ![2, 0, 0, 0] S1x4x4x128.size inb_S4x4x4x128_S1x4x4x128_2_0_0_0, shapeCast S1x4x4x128 (n 2) shapeCasts_S4x4x128_S1x4x4x128⟩,
   ⟨Rect.unit (s := S4x4x4x128) ![1, 0, 0, 0] S1x4x4x128.size inb_S4x4x4x128_S1x4x4x128_1_0_0_0, shapeCast S1x4x4x128 (n 1) shapeCasts_S4x4x128_S1x4x4x128⟩,
   ⟨Rect.unit (s := S4x4x4x128) ![0, 0, 0, 0] S1x4x4x128.size inb_S4x4x4x128_S1x4x4x128_0_0_0_0, shapeCast S1x4x4x128 (n 0) shapeCasts_S4x4x128_S1x4x4x128⟩]

/-- Row `b` of the codes, as the body loads it back. -/
def codeRow (M : Memref sig .tc .vmem S4x4x4x128 .fp8e4m3) (n : Fin 4 → FVec F S4x4x128 .fp8e4m3) (b : Fin 4) : FVec F S4x4x128 .fp8e4m3 :=
  match b with
  | 0 => shapeCast S4x4x128 (s := S1x4x4x128) (M.view.readCov (codePieces n) (Rect.unit (s := S4x4x4x128) ![0, 0, 0, 0] S1x4x4x128.size inb_S4x4x4x128_S1x4x4x128_0_0_0_0).toLoadRect) shapeCasts_S1x4x4x128_S4x4x128
  | 1 => shapeCast S4x4x128 (s := S1x4x4x128) (M.view.readCov (codePieces n) (Rect.unit (s := S4x4x4x128) ![1, 0, 0, 0] S1x4x4x128.size inb_S4x4x4x128_S1x4x4x128_1_0_0_0).toLoadRect) shapeCasts_S1x4x4x128_S4x4x128
  | 2 => shapeCast S4x4x128 (s := S1x4x4x128) (M.view.readCov (codePieces n) (Rect.unit (s := S4x4x4x128) ![2, 0, 0, 0] S1x4x4x128.size inb_S4x4x4x128_S1x4x4x128_2_0_0_0).toLoadRect) shapeCasts_S1x4x4x128_S4x4x128
  | 3 => shapeCast S4x4x128 (s := S1x4x4x128) (M.view.readCov (codePieces n) (Rect.unit (s := S4x4x4x128) ![3, 0, 0, 0] S1x4x4x128.size inb_S4x4x4x128_S1x4x4x128_3_0_0_0).toLoadRect) shapeCasts_S1x4x4x128_S4x4x128

/-- The scales' stores. -/
def scalePieces (e : Fin 4 → BitVec 32) : List (View.Piece (Elt F) S4 .f32) :=
  [⟨Rect.unit (s := S4) ![3] S1.size inb_S4_S1_3, fun _ => pow2 (F := F) (e 3)⟩, ⟨Rect.unit (s := S4) ![2] S1.size inb_S4_S1_2, fun _ => pow2 (F := F) (e 2)⟩,
   ⟨Rect.unit (s := S4) ![1] S1.size inb_S4_S1_1, fun _ => pow2 (F := F) (e 1)⟩, ⟨Rect.unit (s := S4) ![0] S1.size inb_S4_S1_0, fun _ => pow2 (F := F) (e 0)⟩]

/-- The attention's stores: row by row and pair by pair, the blocks. -/
def outPieces (q : Fin 4 → Fin 2 → FVec F S4x16x128 .bf16) (kw vw : Fin 4 → FVec F S1024x4x128 .fp8e4m3) (kn vn : Fin 4 → FVec F S4x4x128 .fp8e4m3)
    (ek ev : Fin 4 → BitVec 32) : List (View.Piece (Elt F) S4x4x32x128 .bf16) :=
  [⟨Rect.unit (s := S4x4x32x128) ![3, 0, 16, 0] S1x4x16x128.size inb_S4x4x32x128_S1x4x16x128_3_0_16_0, blk 2 3 (q 3 1) (kw 3) (vw 3) (kn 3) (vn 3) (cExp (ek 2)) (cExp (ek 3)) (pow2 (ev 2)) (pow2 (ev 3))⟩,
   ⟨Rect.unit (s := S4x4x32x128) ![3, 0, 0, 0] S1x4x16x128.size inb_S4x4x32x128_S1x4x16x128_3_0_0_0, blk 0 1 (q 3 0) (kw 3) (vw 3) (kn 3) (vn 3) (cExp (ek 0)) (cExp (ek 1)) (pow2 (ev 0)) (pow2 (ev 1))⟩,
   ⟨Rect.unit (s := S4x4x32x128) ![2, 0, 16, 0] S1x4x16x128.size inb_S4x4x32x128_S1x4x16x128_2_0_16_0, blk 2 3 (q 2 1) (kw 2) (vw 2) (kn 2) (vn 2) (cExp (ek 2)) (cExp (ek 3)) (pow2 (ev 2)) (pow2 (ev 3))⟩,
   ⟨Rect.unit (s := S4x4x32x128) ![2, 0, 0, 0] S1x4x16x128.size inb_S4x4x32x128_S1x4x16x128_2_0_0_0, blk 0 1 (q 2 0) (kw 2) (vw 2) (kn 2) (vn 2) (cExp (ek 0)) (cExp (ek 1)) (pow2 (ev 0)) (pow2 (ev 1))⟩,
   ⟨Rect.unit (s := S4x4x32x128) ![1, 0, 16, 0] S1x4x16x128.size inb_S4x4x32x128_S1x4x16x128_1_0_16_0, blk 2 3 (q 1 1) (kw 1) (vw 1) (kn 1) (vn 1) (cExp (ek 2)) (cExp (ek 3)) (pow2 (ev 2)) (pow2 (ev 3))⟩,
   ⟨Rect.unit (s := S4x4x32x128) ![1, 0, 0, 0] S1x4x16x128.size inb_S4x4x32x128_S1x4x16x128_1_0_0_0, blk 0 1 (q 1 0) (kw 1) (vw 1) (kn 1) (vn 1) (cExp (ek 0)) (cExp (ek 1)) (pow2 (ev 0)) (pow2 (ev 1))⟩,
   ⟨Rect.unit (s := S4x4x32x128) ![0, 0, 16, 0] S1x4x16x128.size inb_S4x4x32x128_S1x4x16x128_0_0_16_0, blk 2 3 (q 0 1) (kw 0) (vw 0) (kn 0) (vn 0) (cExp (ek 2)) (cExp (ek 3)) (pow2 (ev 2)) (pow2 (ev 3))⟩,
   ⟨Rect.unit (s := S4x4x32x128) ![0, 0, 0, 0] S1x4x16x128.size inb_S4x4x32x128_S1x4x16x128_0_0_0_0, blk 0 1 (q 0 0) (kw 0) (vw 0) (kn 0) (vn 0) (cExp (ek 0)) (cExp (ek 1)) (pow2 (ev 0)) (pow2 (ev 1))⟩]

variable (arg8 : Memref sig .tc .vmem S4x4x32x128 .bf16) (harg8 : arg8.IsWhole) (harg9 : arg9.IsWhole) (arg10 : Memref sig .tc .smem S4 .f32) (harg10 : arg10.IsWhole) (harg11 : arg11.IsWhole) (arg12 : Memref sig .tc .smem S4 .f32) (harg12 : arg12.IsWhole)
  (harg13 : arg13.IsWhole) (harg14 : arg14.IsWhole) (harg15 : arg15.IsWhole) (harg16 : arg16.IsWhole) (harg17 : arg17.IsWhole)

/-- The run's key scales. -/
theorem L5_eq : ((kernelRun0_A (F := F) c arg0 harg0 arg1 harg1 arg2 harg2 arg8 harg8 arg9 harg9 arg10 harg10 arg11 harg11 arg12 harg12 arg13 harg13 arg14 harg14 arg15 harg15 arg16 harg16 arg17 harg17 x0 x1 x2 fh0 fh1 fh2 fh3 fh4 fs0 fs1)).2.2.1 = scalePieces (words arg1 harg1 x1) := by sl_kernel_rfl

/-- The run's value scales. -/
theorem L7_eq : ((kernelRun0_A (F := F) c arg0 harg0 arg1 harg1 arg2 harg2 arg8 harg8 arg9 harg9 arg10 harg10 arg11 harg11 arg12 harg12 arg13 harg13 arg14 harg14 arg15 harg15 arg16 harg16 arg17 harg17 x0 x1 x2 fh0 fh1 fh2 fh3 fh4 fs0 fs1)).2.2.2.2.val = scalePieces (words arg2 harg2 x2) := by sl_kernel_rfl

/-- The run's key codes. -/
theorem L4_eq : ((kernelRun0_A (F := F) c arg0 harg0 arg1 harg1 arg2 harg2 arg8 harg8 arg9 harg9 arg10 harg10 arg11 harg11 arg12 harg12 arg13 harg13 arg14 harg14 arg15 harg15 arg16 harg16 arg17 harg17 x0 x1 x2 fh0 fh1 fh2 fh3 fh4 fs0 fs1)).2.1 = codePieces (fun b => quant (words arg1 harg1 x1) (newRow arg16 (View.read (Elt F) (Memref.whole main_arg1).view fh1) b)) := by
  sl_kernel_rfl

/-- The run's value codes. -/
theorem L6_eq : ((kernelRun0_A (F := F) c arg0 harg0 arg1 harg1 arg2 harg2 arg8 harg8 arg9 harg9 arg10 harg10 arg11 harg11 arg12 harg12 arg13 harg13 arg14 harg14 arg15 harg15 arg16 harg16 arg17 harg17 x0 x1 x2 fh0 fh1 fh2 fh3 fh4 fs0 fs1)).2.2.2.1 = codePieces (fun b => quant (words arg2 harg2 x2) (newRow arg17 (View.read (Elt F) (Memref.whole main_arg2).view fh2) b)) := by
  sl_kernel_rfl

/-- The run's attention, over the contents the cache scratch buffers started with. -/
theorem L3_eq' : ((kernelRun0_A (F := F) c arg0 harg0 arg1 harg1 arg2 harg2 arg8 harg8 arg9 harg9 arg10 harg10 arg11 harg11 arg12 harg12 arg13 harg13 arg14 harg14 arg15 harg15 arg16 harg16 arg17 harg17 x0 x1 x2 fh0 fh1 fh2 fh3 fh4 fs0 fs1)).1 = outPieces (qPart arg15 (View.read (Elt F) (Memref.whole main_arg0).view fh0))
      (loaded arg13 fs0 (fun b => kWin c fh3 (words arg0 harg0 x0 b) b)) (loaded arg14 fs1 (fun b => vWin c fh4 (words arg0 harg0 x0 b) b))
      (codeRow arg9 (fun b => quant (words arg1 harg1 x1) (newRow arg16 (View.read (Elt F) (Memref.whole main_arg1).view fh1) b)))
      (codeRow arg11 (fun b => quant (words arg2 harg2 x2) (newRow arg17 (View.read (Elt F) (Memref.whole main_arg2).view fh2) b)))
      (words arg1 harg1 x1) (words arg2 harg2 x2) := by
  sl_kernel_rfl

/-- The run's attention. -/
theorem L3_eq : ((kernelRun0_A (F := F) c arg0 harg0 arg1 harg1 arg2 harg2 arg8 harg8 arg9 harg9 arg10 harg10 arg11 harg11 arg12 harg12 arg13 harg13 arg14 harg14 arg15 harg15 arg16 harg16 arg17 harg17 x0 x1 x2 fh0 fh1 fh2 fh3 fh4 fs0 fs1)).1 = outPieces (qPart arg15 (View.read (Elt F) (Memref.whole main_arg0).view fh0))
      (fun b => kWin c fh3 (words arg0 harg0 x0 b) b) (fun b => vWin c fh4 (words arg0 harg0 x0 b) b)
      (codeRow arg9 (fun b => quant (words arg1 harg1 x1) (newRow arg16 (View.read (Elt F) (Memref.whole main_arg1).view fh1) b)))
      (codeRow arg11 (fun b => quant (words arg2 harg2 x2) (newRow arg17 (View.read (Elt F) (Memref.whole main_arg2).view fh2) b)))
      (words arg1 harg1 x1) (words arg2 harg2 x2) := by
  rw [L3_eq', loaded_eq, loaded_eq]

end Cert.KernelIdeal.Run

end
-- ==== Proof.Run.Frame.lean ====
/- The kernel's run: what its five outputs hold after it, and that its arguments end unchanged. -/
module

public import proofs.«01_k».proof.Proof.Run.Pay
public import Idealize.ShloMosaic.Lib.Claim

@[expose] public section

set_option maxRecDepth 16384

noncomputable section

namespace Cert.KernelIdeal.Run

open Cert.KernelIdeal.Gen Cert.KernelIdeal.Blk Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The attention's stores at point `t`. -/
def P3 (c : Dev nD) (t : Fin cfg0.N) : List (View.Piece (Elt F) S4x4x32x128 .bf16) :=
  outPieces (qPart scM0_2 (View.read (Elt F) (Memref.whole main_arg0).view (V m c main_arg0)))
    (fun b => kWin c (V m c main_arg3) (words (ms0_0 t) (hs0_0 t) (iblk m c 0 t) b) b) (fun b => vWin c (V m c main_arg4) (words (ms0_0 t) (hs0_0 t) (iblk m c 0 t) b) b)
    (codeRow (ms0_4 t) (fun b => quant (words (ms0_1 t) (hs0_1 t) (iblk m c 1 t)) (newRow scM0_3 (View.read (Elt F) (Memref.whole main_arg1).view (V m c main_arg1)) b)))
    (codeRow (ms0_6 t) (fun b => quant (words (ms0_2 t) (hs0_2 t) (iblk m c 2 t)) (newRow scM0_4 (View.read (Elt F) (Memref.whole main_arg2).view (V m c main_arg2)) b)))
    (words (ms0_1 t) (hs0_1 t) (iblk m c 1 t)) (words (ms0_2 t) (hs0_2 t) (iblk m c 2 t))

/-- The key codes' stores at point `t`. -/
def P4 (c : Dev nD) (t : Fin cfg0.N) : List (View.Piece (Elt F) S4x4x4x128 .fp8e4m3) := codePieces (fun b => quant (words (ms0_1 t) (hs0_1 t) (iblk m c 1 t)) (newRow scM0_3 (View.read (Elt F) (Memref.whole main_arg1).view (V m c main_arg1)) b))

/-- The key scales' stores at point `t`. -/
def P5 (c : Dev nD) (t : Fin cfg0.N) : List (View.Piece (Elt F) S4 .f32) := scalePieces (words (ms0_1 t) (hs0_1 t) (iblk m c 1 t))

/-- The value codes' stores at point `t`. -/
def P6 (c : Dev nD) (t : Fin cfg0.N) : List (View.Piece (Elt F) S4x4x4x128 .fp8e4m3) := codePieces (fun b => quant (words (ms0_2 t) (hs0_2 t) (iblk m c 2 t)) (newRow scM0_4 (View.read (Elt F) (Memref.whole main_arg2).view (V m c main_arg2)) b))

/-- The value scales' stores at point `t`. -/
def P7 (c : Dev nD) (t : Fin cfg0.N) : List (View.Piece (Elt F) S4 .f32) := scalePieces (words (ms0_2 t) (hs0_2 t) (iblk m c 2 t))

/-- Each output's stores tile it, so they cover it. -/
theorem cover3 (c : Dev nD) (t : Fin cfg0.N) (y : S4x4x32x128.Idx) : ∃ pc ∈ P3 m c t, y ∈ pc.1.set :=
  View.cover_of_tiledL (P3 m c t) S1x4x16x128.size (by sl_kernel_rfl) y
theorem cover4 (c : Dev nD) (t : Fin cfg0.N) (y : S4x4x4x128.Idx) : ∃ pc ∈ P4 m c t, y ∈ pc.1.set :=
  View.cover_of_tiledL (P4 m c t) S1x4x4x128.size (by sl_kernel_rfl) y
theorem cover5 (c : Dev nD) (t : Fin cfg0.N) (y : S4.Idx) : ∃ pc ∈ P5 m c t, y ∈ pc.1.set :=
  View.cover_of_tiledL (P5 m c t) S1.size (by sl_kernel_rfl) y
theorem cover6 (c : Dev nD) (t : Fin cfg0.N) (y : S4x4x4x128.Idx) : ∃ pc ∈ P6 m c t, y ∈ pc.1.set :=
  View.cover_of_tiledL (P6 m c t) S1x4x4x128.size (by sl_kernel_rfl) y
theorem cover7 (c : Dev nD) (t : Fin cfg0.N) (y : S4.Idx) : ∃ pc ∈ P7 m c t, y ∈ pc.1.set :=
  View.cover_of_tiledL (P7 m c t) S1.size (by sl_kernel_rfl) y

/-- What the outputs' staging buffers hold after the body at point `t`, in window order: each one's stores read back. -/
def outsAt0 (c : Dev nD) (t : Fin cfg0.N) : Vec F S4x4x32x128 .bf16 × Vec F S4x4x4x128 .fp8e4m3 × Vec F S4 .f32 × Vec F S4x4x4x128 .fp8e4m3 × Vec F S4 .f32 :=
  (VO0_3.read (Elt F) (VO0_3.writes (Elt F) VO0_3.junk (P3 m c t)), VO0_4.read (Elt F) (VO0_4.writes (Elt F) VO0_4.junk (P4 m c t)),
   VO0_5.read (Elt F) (VO0_5.writes (Elt F) VO0_5.junk (P5 m c t)), VO0_6.read (Elt F) (VO0_6.writes (Elt F) VO0_6.junk (P6 m c t)),
   VO0_7.read (Elt F) (VO0_7.writes (Elt F) VO0_7.junk (P7 m c t)))

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2.1
    | ⟨5, _⟩ => (outsAt0 m c t).2.2.1
    | ⟨6, _⟩ => (outsAt0 m c t).2.2.2.1
    | ⟨7, _⟩ => (outsAt0 m c t).2.2.2.2
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2.1 := by dsimp only [dats]
theorem after0_5 (c : Dev nD) (t : Fin cfg0.N) : (dats m 0 c).after 5 t = (outsAt0 m c t).2.2.1 := by dsimp only [dats]
theorem after0_6 (c : Dev nD) (t : Fin cfg0.N) : (dats m 0 c).after 6 t = (outsAt0 m c t).2.2.2.1 := by dsimp only [dats]
theorem after0_7 (c : Dev nD) (t : Fin cfg0.N) : (dats m 0 c).after 7 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1200000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    after0_0, after0_1, after0_2, after0_3, after0_4, after0_5, after0_6, after0_7]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  dsimp only
  unfold owns
  iintro ⟨⟨⟨⟨%ds0, %fs0, -, HS0⟩, ⟨%ds1, %fs1, -, HS1⟩, HS2, HS3, HS4⟩, Hg, ⟨Hq0, Hq1, Hq2, Hq3, Hq4, Hq5, Hq6, Hq7, Hq8, Hq9, Hq10⟩, ⟨Hh0, Hh1, Hh2, Hh3, Hh4⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c _ _ _ _ _ _ _ _ _ _ _ _ _ _ _ _ _ _ _ _ _ _ _ _ _ _ (iblk m c 0 t) (iblk m c 1 t) (iblk m c 2 t) (V m c main_arg0) (V m c main_arg1) (V m c main_arg2) (V m c main_arg3) (V m c main_arg4) fs0 fs1).2.2.2.2.2 W _)
  unfold owns
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hh0]; · iexact Hh0
  isplitl [Hh1]; · iexact Hh1
  isplitl [Hh2]; · iexact Hh2
  isplitl [Hh3]; · iexact Hh3
  isplitl [Hh4]; · iexact Hh4
  isplitl [HW]; · iexact HW
  iintro ⟨H0, H1, H2, ⟨%e3, H3⟩, ⟨%e4, H4⟩, ⟨%e5, H5⟩, ⟨%e6, H6⟩, ⟨%e7, H7⟩, HS0, HS1, HS2, HS3, HS4, Hq0, Hq1, Hq2, Hq3, Hq4, Hq5, Hq6, Hq7, Hq8, Hq9, Hq10, Hh0, Hh1, Hh2, Hh3, Hh4, ⟨%W', HW'⟩⟩
  isplitl [HS0 HS1 HS2 HS3 HS4 Hg Hq0 Hq1 Hq2 Hq3 Hq4 Hq5 Hq6 Hq7 Hq8 Hq9 Hq10 Hh0 Hh1 Hh2 Hh3 Hh4]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4 Hq5 Hq6 Hq7 Hq8 Hq9 Hq10]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [Hh0]; · iexact Hh0
    isplitl [Hh1]; · iexact Hh1
    isplitl [Hh2]; · iexact Hh2
    isplitl [Hh3]; · iexact Hh3
    iexact Hh4
  isplitl [HW']
  · iexists W'; isplitr; · ipureintro; exact fun _ _ => Or.inl trivial
    iexact HW'
  isplitl [H0]; · iexact H0
  isplitl [H1]; · iexact H1
  isplitl [H2]; · iexact H2
  isplitl [H3]
  · iexists _; isplitr
    swap; · iexact H3
    ipureintro; rw [L3_eq]; exact View.read_writes_of_cover _ _ _ _ _ (cover3 m c t)
  isplitl [H4]
  · iexists _; isplitr
    swap; · iexact H4
    ipureintro; rw [L4_eq]; exact View.read_writes_of_cover _ _ _ _ _ (cover4 m c t)
  isplitl [H5]
  · iexists _; isplitr
    swap; · iexact H5
    ipureintro; rw [L5_eq]; exact View.read_writes_of_cover _ _ _ _ _ (cover5 m c t)
  isplitl [H6]
  · iexists _; isplitr
    swap; · iexact H6
    ipureintro; rw [L6_eq]; exact View.read_writes_of_cover _ _ _ _ _ (cover6 m c t)
  iexists _; isplitr
  swap; · iexact H7
  ipureintro; rw [L7_eq]; exact View.read_writes_of_cover _ _ _ _ _ (cover7 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: every argument array ends as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Run

end
-- ==== Proof.Run.Value.lean ====
/- The kernel's outputs after the run, each block what the one grid point wrote. -/
module

public import proofs.«01_k».proof.Proof.Run.Frame
public import Idealize.ShloMosaic.Lib.Pipeline.Value

@[expose] public section

noncomputable section

namespace Cert.KernelIdeal.Run

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`outsAt0`: its component 0), read through the window's block. -/
theorem flushed3 (c : Dev nD) (t : Fin cfg0.N) :
    (dats m 0 c).flushed 3 t = (cfg0.win 3).cut (grid0.coords t) ((outsAt0 m c t).1) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- WHAT POINT `t` WRITES BACK to output window 4's array: the run's contents for that window after the body (`outsAt0`: its component 1), read through the window's block. -/
theorem flushed4 (c : Dev nD) (t : Fin cfg0.N) :
    (dats m 0 c).flushed 4 t = (cfg0.win 4).cut (grid0.coords t) ((outsAt0 m c t).2.1) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- WHAT POINT `t` WRITES BACK to output window 5's array: the run's contents for that window after the body (`outsAt0`: its component 2), read through the window's block. -/
theorem flushed5 (c : Dev nD) (t : Fin cfg0.N) :
    (dats m 0 c).flushed 5 t = (cfg0.win 5).cut (grid0.coords t) ((outsAt0 m c t).2.2.1) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- WHAT POINT `t` WRITES BACK to output window 6's array: the run's contents for that window after the body (`outsAt0`: its component 3), read through the window's block. -/
theorem flushed6 (c : Dev nD) (t : Fin cfg0.N) :
    (dats m 0 c).flushed 6 t = (cfg0.win 6).cut (grid0.coords t) ((outsAt0 m c t).2.2.2.1) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- WHAT POINT `t` WRITES BACK to output window 7's array: the run's contents for that window after the body (`outsAt0`: its component 4), read through the window's block. -/
theorem flushed7 (c : Dev nD) (t : Fin cfg0.N) :
    (dats m 0 c).flushed 7 t = (cfg0.win 7).cut (grid0.coords t) ((outsAt0 m c t).2.2.2.2) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_4) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 0 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 0).trans (((dats m 0 c).arrAt_in 0 rfl _).trans ((A_eq m c 0).trans (V_main_arg5 m c)))

/-- After the frame run, argument `main_arg6` is as launched: input window 1 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 1).trans (((dats m 0 c).arrAt_in 1 rfl _).trans ((A_eq m c 1).trans (V_main_arg6 m c)))

/-- After the frame run, argument `main_arg7` is as launched: input window 2 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 2).trans (((dats m 0 c).arrAt_in 2 rfl _).trans ((A_eq m c 2).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_v0_3) = (dats m 0 c).arrAt 6 cfg0.N
      ∧ r.2.mem ((c : Thread nD τ).loc main_v0_4) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post3 m r h c,
      post4 m r h c,
      post5 m r h c,
      post6 m r h c,
      post7 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Run

end
-- ==== Proof.Val.Math.lean ====
/- The attention of one query row over one head, on the extended reals: the kernel's arithmetic on 1024 slots, with the
   visible new tokens laid over the cached tokens they push out, gives what the reference's arithmetic on the 1024 cached
   and the 4 new tokens gives. -/
module

public import Idealize.ShloMosaic.PureOps.Ideal

@[expose] public section

noncomputable section

namespace Cert.Att

open Idealize.ShloMosaic

/-! ## Scaling by a positive real -/

/-- Multiplying by a positive real spreads over a difference. -/
theorem sub_mul_coe {k : ℝ} (hk : 0 < k) (x y : EReal) : (x - y) * (k : EReal) = x * k - y * k := by
  rw [sub_eq_add_neg, sub_eq_add_neg, mul_comm, EReal.left_distrib_of_nonneg_of_ne_top (by exact_mod_cast hk.le) (EReal.coe_ne_top k), mul_comm _ x, mul_neg, mul_comm _ y]

/-- Multiplying by a positive real keeps the order. -/
theorem mul_coe_mono {k : ℝ} (hk : 0 < k) : Monotone fun x : EReal => x * (k : EReal) :=
  fun _ _ h => mul_le_mul_of_nonneg_right h (by exact_mod_cast hk.le)

/-- The smallest extended real stays so under a positive real. -/
theorem bot_mul_coe {k : ℝ} (hk : 0 < k) : (⊥ : EReal) * (k : EReal) = ⊥ := EReal.bot_mul_coe_of_pos hk

/-- The largest of finitely many, as a fold, is the supremum. -/
theorem fold_max_eq_sup {n : ℕ} (f : Fin n → EReal) : Finset.fold max ⊥ f Finset.univ = Finset.univ.sup f := rfl

/-- Scaling by a positive real moves out of a supremum. -/
theorem sup_mul_coe {n : ℕ} {k : ℝ} (hk : 0 < k) (f : Fin n → EReal) :
    (Finset.univ.sup fun t => f t * (k : EReal)) = Finset.univ.sup f * (k : EReal) := by
  refine (Finset.comp_sup_eq_sup_comp (fun x : EReal => x * (k : EReal)) ?_ (bot_mul_coe hk)).symm
  intro x y
  exact (mul_coe_mono hk).map_sup x y

/-- Two to the power `x · (k / ln 2)` is the exponential of `x · k`. -/
theorem exp2_mul {k : ℝ} (hk : 0 < k) (x : EReal) : Ideal.exp2 (x * ((k * (Real.log 2)⁻¹ : ℝ) : EReal)) = Ideal.exp (x * (k : EReal)) := by
  have hl : 0 < Real.log 2 := Real.log_pos (by norm_num)
  have hc : 0 < k * (Real.log 2)⁻¹ := mul_pos hk (inv_pos.2 hl)
  induction x with
  | bot => rw [bot_mul_coe hc, bot_mul_coe hk]; rfl
  | top => rw [EReal.top_mul_coe_of_pos hc, EReal.top_mul_coe_of_pos hk]; rfl
  | coe r =>
    rw [← EReal.coe_mul, ← EReal.coe_mul, Ideal.exp2_coe, Ideal.exp_coe]
    congr 1
    rw [Real.rpow_eq_pow, Real.rpow_def_of_pos (by norm_num)]
    congr 1
    field_simp

/-- Nothing below: the exponential of a masked score is zero. -/
theorem exp_bot_sub (x : EReal) : Ideal.exp (⊥ - x) = 0 := by rw [sub_eq_add_neg, EReal.bot_add]; rfl

/-- A reciprocal scaled by a positive real is the scaled quotient. -/
theorem div_one_mul {v : ℝ} (hv : 0 < v) (y : EReal) : Ideal.div 1 y * (v : EReal) = Ideal.div (v : EReal) y := by
  unfold Ideal.div
  by_cases h : y = 0
  · rw [if_pos h, if_pos h, if_pos zero_lt_one, if_pos (by exact_mod_cast hv), EReal.top_mul_coe_of_pos hv]
  · rw [if_neg h, if_neg h, one_mul, mul_comm]

/-! ## The reference's arithmetic -/

/-- The masked, scaled scores over the 1024 cached and the 4 new tokens, for the query at step `s`. -/
def refScore (s : Fin 4) (K : Fin 1024 → EReal) (N : Fin 4 → EReal) (k : EReal) (t : Fin 1028) : EReal :=
  if h : (t : ℕ) < 1024 then (if (s : ℕ) < t then K ⟨t, h⟩ * k else ⊥) else (if (t : ℕ) - 1024 ≤ s then N ⟨t - 1024, by omega⟩ * k else ⊥)

/-- The softmax of the scores, the value scale multiplied in. -/
def refProb (r : Fin 1028 → EReal) (v : EReal) (t : Fin 1028) : EReal :=
  (Ideal.exp (r t - Finset.fold max ⊥ r Finset.univ) * Ideal.div 1 (∑ u, Ideal.exp (r u - Finset.fold max ⊥ r Finset.univ))) * v

/-- The weighted sum of the cached and of the new tokens' values. -/
def refOut (s : Fin 4) (K V : Fin 1024 → EReal) (N W : Fin 4 → EReal) (k v : EReal) : EReal :=
  (∑ t : Fin 1024, V t * refProb (refScore s K N k) v ⟨t, by omega⟩) + ∑ u : Fin 4, W u * refProb (refScore s K N k) v ⟨1024 + u, by omega⟩

/-! ## The kernel's arithmetic -/

/-- The token slot `r` holds. -/
def tok (r : Fin 1024) : Fin 1024 := ⟨(r : ℕ) % 4 * 256 + (r : ℕ) / 4, by omega⟩

/-- Slot `r` holds a new token visible at step `s`. -/
def New (s : Fin 4) (r : Fin 1024) : Prop := (r : ℕ) % 4 = 0 ∧ (r : ℕ) ≤ 4 * (s : ℕ)

instance (s : Fin 4) (r : Fin 1024) : Decidable (New s r) := by unfold New; infer_instance

/-- The new token of slot `r`, where it holds one. -/
def low (r : Fin 1024) : Fin 4 := ⟨(r : ℕ) / 4 % 4, by omega⟩

/-- The raw scores over the slots. -/
def kerScore (s : Fin 4) (K : Fin 1024 → EReal) (N : Fin 4 → EReal) (r : Fin 1024) : EReal := if New s r then N (low r) else K (tok r)

/-- The softmax of the scores over the slots in base two, the value scale multiplied in. -/
def kerProb (y : Fin 1024 → EReal) (c v : EReal) (r : Fin 1024) : EReal :=
  Ideal.exp2 ((y r - Finset.fold max ⊥ y Finset.univ) * c) * Ideal.div v (∑ u, Ideal.exp2 ((y u - Finset.fold max ⊥ y Finset.univ) * c))

/-- The weighted sums: of the cached values away from the new tokens' slots, of the new values on them. -/
def kerOut (s : Fin 4) (K V : Fin 1024 → EReal) (N W : Fin 4 → EReal) (c v : EReal) : EReal :=
  (∑ r : Fin 1024, (if New s r then 0 else kerProb (kerScore s K N) c v r) * V (tok r))
    + ∑ r : Fin 1024, (if New s r then kerProb (kerScore s K N) c v r * W (low r) else 0)

/-! ## Both in the order of tokens -/

/-- The scores over 1024 tokens, the first ones replaced by the visible new tokens. -/
def Y (s : Fin 4) (K : Fin 1024 → EReal) (N : Fin 4 → EReal) (t : Fin 1024) : EReal :=
  if (t : ℕ) ≤ s then N ⟨(t : ℕ) % 4, by omega⟩ else K t

/-- Slots and tokens correspond one to one. -/
def tokEquiv : Fin 1024 ≃ Fin 1024 where
  toFun := tok
  invFun t := ⟨(t : ℕ) % 256 * 4 + (t : ℕ) / 256, by omega⟩
  left_inv r := by apply Fin.ext; simp only [tok]; omega
  right_inv t := by apply Fin.ext; simp only [tok]; omega

theorem new_iff (s : Fin 4) (r : Fin 1024) : New s r ↔ (tok r : ℕ) ≤ s := by
  have := s.isLt
  simp only [New, tok]; omega

theorem kerScore_eq (s : Fin 4) (K : Fin 1024 → EReal) (N : Fin 4 → EReal) (r : Fin 1024) : kerScore s K N r = Y s K N (tok r) := by
  unfold kerScore Y
  by_cases h : New s r
  · rw [if_pos h, if_pos ((new_iff s r).1 h)]
    congr 1; apply Fin.ext
    have := s.isLt
    simp only [New] at h
    simp only [low, tok]; omega
  · rw [if_neg h, if_neg (mt (new_iff s r).2 h)]

/-- The exponentials over the tokens. -/
def E (s : Fin 4) (K : Fin 1024 → EReal) (N : Fin 4 → EReal) (k : EReal) (t : Fin 1024) : EReal :=
  Ideal.exp ((Y s K N t - Finset.univ.sup (Y s K N)) * k)

/-- The probabilities over the tokens. -/
def P (s : Fin 4) (K : Fin 1024 → EReal) (N : Fin 4 → EReal) (k v : EReal) (t : Fin 1024) : EReal :=
  E s K N k t * Ideal.div v (∑ u, E s K N k u)

theorem sup_kerScore (s : Fin 4) (K : Fin 1024 → EReal) (N : Fin 4 → EReal) :
    Finset.fold max ⊥ (kerScore s K N) Finset.univ = Finset.univ.sup (Y s K N) := by
  rw [fold_max_eq_sup]
  apply le_antisymm
  · exact Finset.sup_le fun r _ => by rw [kerScore_eq]; exact Finset.le_sup (f := Y s K N) (Finset.mem_univ _)
  · refine Finset.sup_le fun t _ => ?_
    have h := kerScore_eq s K N (tokEquiv.symm t)
    rw [show tok (tokEquiv.symm t) = t from tokEquiv.apply_symm_apply t] at h
    rw [← h]; exact Finset.le_sup (f := kerScore s K N) (Finset.mem_univ _)

theorem kerProb_eq (s : Fin 4) (K : Fin 1024 → EReal) (N : Fin 4 → EReal) {k : ℝ} (hk : 0 < k) (v : EReal) (r : Fin 1024) :
    kerProb (kerScore s K N) ((k * (Real.log 2)⁻¹ : ℝ) : EReal) v r = P s K N k v (tok r) := by
  have he : ∀ u, Ideal.exp2 ((kerScore s K N u - Finset.fold max ⊥ (kerScore s K N) Finset.univ) * ((k * (Real.log 2)⁻¹ : ℝ) : EReal)) = E s K N k (tok u) := by
    intro u; rw [exp2_mul hk, sup_kerScore, kerScore_eq]; rfl
  unfold kerProb P
  simp only [he]
  congr 2
  exact tokEquiv.sum_comp (E s K N k)

/-- What both sum up to. -/
def out (s : Fin 4) (K V : Fin 1024 → EReal) (N W : Fin 4 → EReal) (k v : EReal) : EReal :=
  (∑ t : Fin 1024, (if (t : ℕ) ≤ s then 0 else P s K N k v t) * V t)
    + ∑ t : Fin 1024, (if (t : ℕ) ≤ s then P s K N k v t * W ⟨(t : ℕ) % 4, by omega⟩ else 0)

theorem kerOut_eq (s : Fin 4) (K V : Fin 1024 → EReal) (N W : Fin 4 → EReal) {k : ℝ} (hk : 0 < k) (v : EReal) :
    kerOut s K V N W ((k * (Real.log 2)⁻¹ : ℝ) : EReal) v = out s K V N W k v := by
  unfold kerOut out
  congr 1
  · rw [← tokEquiv.sum_comp fun t : Fin 1024 => (if (t : ℕ) ≤ s then 0 else P s K N k v t) * V t]
    refine Finset.sum_congr rfl fun r _ => ?_
    show _ = (if (tok r : ℕ) ≤ s then 0 else P s K N k v (tok r)) * V (tok r)
    simp only [kerProb_eq s K N hk, new_iff]
  · rw [← tokEquiv.sum_comp fun t : Fin 1024 => (if (t : ℕ) ≤ s then P s K N k v t * W ⟨(t : ℕ) % 4, by omega⟩ else 0)]
    refine Finset.sum_congr rfl fun r _ => ?_
    show _ = (if (tok r : ℕ) ≤ s then P s K N k v (tok r) * W ⟨(tok r : ℕ) % 4, _⟩ else 0)
    by_cases h : New s r
    · rw [if_pos h, if_pos ((new_iff s r).1 h), kerProb_eq s K N hk]
      congr 2; apply Fin.ext
      have := s.isLt
      simp only [New] at h
      simp only [low, tok]; omega
    · rw [if_neg h, if_neg (mt (new_iff s r).2 h)]

/-- A sum over the cached and the new tokens, in two. -/
theorem sum_1028 (f : Fin 1028 → EReal) : ∑ t, f t = (∑ t : Fin 1024, f ⟨t, by omega⟩) + ∑ u : Fin 4, f ⟨1024 + u, by omega⟩ :=
  Fin.sum_univ_add (a := 1024) (b := 4) f

/-- A sum over 1024 tokens whose terms vanish from the fifth on. -/
theorem sum_first (f : Fin 1024 → EReal) (h : ∀ t : Fin 1024, 4 ≤ (t : ℕ) → f t = 0) : ∑ t, f t = ∑ u : Fin 4, f ⟨u, by omega⟩ := by
  rw [show ∑ t, f t = (∑ t : Fin 4, f ⟨t, by omega⟩) + ∑ u : Fin 1020, f ⟨4 + u, by omega⟩ from Fin.sum_univ_add (a := 4) (b := 1020) f]
  rw [Finset.sum_eq_zero (s := Finset.univ) (f := fun u : Fin 1020 => f ⟨4 + u, by omega⟩) fun u _ => h _ (by simp), add_zero]

theorem refScore_cached (s : Fin 4) (K : Fin 1024 → EReal) (N : Fin 4 → EReal) (k : EReal) (t : Fin 1024) :
    refScore s K N k ⟨t, by omega⟩ = if (t : ℕ) ≤ s then ⊥ else Y s K N t * k := by
  have := t.isLt
  unfold refScore Y
  simp only [this, ↓reduceDIte]
  by_cases h : (t : ℕ) ≤ s
  · rw [if_neg (by omega), if_pos h]
  · rw [if_pos (by omega), if_neg h, if_neg h]

theorem refScore_new (s : Fin 4) (K : Fin 1024 → EReal) (N : Fin 4 → EReal) (k : EReal) (u : Fin 4) :
    refScore s K N k ⟨1024 + u, by omega⟩ = if (u : ℕ) ≤ s then Y s K N ⟨u, by omega⟩ * k else ⊥ := by
  have hu := u.isLt
  unfold refScore Y
  rw [dif_neg (by simp)]
  simp only [Nat.add_sub_cancel_left]
  by_cases h : (u : ℕ) ≤ s
  · rw [if_pos h, if_pos h, if_pos h]
    congr 2; apply Fin.ext; simp only; omega
  · rw [if_neg h, if_neg h]

theorem sup_refScore (s : Fin 4) (K : Fin 1024 → EReal) (N : Fin 4 → EReal) {k : ℝ} (hk : 0 < k) :
    Finset.fold max ⊥ (refScore s K N k) Finset.univ = Finset.univ.sup (Y s K N) * k := by
  rw [fold_max_eq_sup, ← sup_mul_coe hk]
  have hs := s.isLt
  apply le_antisymm
  · refine Finset.sup_le fun t _ => ?_
    by_cases ht : (t : ℕ) < 1024
    · have h := refScore_cached s K N k ⟨t, ht⟩
      simp only [Fin.eta] at h
      rw [h]
      split_ifs
      · exact bot_le
      · exact Finset.le_sup (f := fun t => Y s K N t * (k : EReal)) (Finset.mem_univ _)
    · have h := refScore_new s K N k ⟨t - 1024, by omega⟩
      simp only [show 1024 + ((t : ℕ) - 1024) = t by omega, Fin.eta] at h
      rw [h]
      split_ifs
      · exact Finset.le_sup (f := fun t => Y s K N t * (k : EReal)) (Finset.mem_univ _)
      · exact bot_le
  · refine Finset.sup_le fun t _ => ?_
    by_cases ht : (t : ℕ) ≤ s
    · have h := refScore_new s K N k ⟨t, by omega⟩
      rw [if_pos ht] at h
      rw [show Y s K N t = Y s K N ⟨t, by omega⟩ from rfl, ← h]
      exact Finset.le_sup (f := refScore s K N k) (Finset.mem_univ _)
    · have h := refScore_cached s K N k t
      rw [if_neg ht] at h
      rw [← h]
      exact Finset.le_sup (f := refScore s K N k) (Finset.mem_univ _)

theorem exp_cached (s : Fin 4) (K : Fin 1024 → EReal) (N : Fin 4 → EReal) {k : ℝ} (hk : 0 < k) (t : Fin 1024) :
    Ideal.exp (refScore s K N k ⟨t, by omega⟩ - Finset.fold max ⊥ (refScore s K N k) Finset.univ) = if (t : ℕ) ≤ s then 0 else E s K N k t := by
  rw [refScore_cached, sup_refScore s K N hk]
  split_ifs
  · exact exp_bot_sub _
  · rw [← sub_mul_coe hk]; rfl

theorem exp_new (s : Fin 4) (K : Fin 1024 → EReal) (N : Fin 4 → EReal) {k : ℝ} (hk : 0 < k) (u : Fin 4) :
    Ideal.exp (refScore s K N k ⟨1024 + u, by omega⟩ - Finset.fold max ⊥ (refScore s K N k) Finset.univ)
      = if (u : ℕ) ≤ s then E s K N k ⟨u, by omega⟩ else 0 := by
  rw [refScore_new, sup_refScore s K N hk]
  split_ifs
  · rw [← sub_mul_coe hk]; rfl
  · exact exp_bot_sub _

theorem sum_exp (s : Fin 4) (K : Fin 1024 → EReal) (N : Fin 4 → EReal) {k : ℝ} (hk : 0 < k) :
    (∑ u, Ideal.exp (refScore s K N k u - Finset.fold max ⊥ (refScore s K N k) Finset.univ)) = ∑ t, E s K N k t := by
  have hs := s.isLt
  rw [sum_1028]
  simp only [exp_cached s K N hk, exp_new s K N hk]
  rw [← sum_first (fun t => if (t : ℕ) ≤ s then E s K N k t else 0) fun t ht => if_neg (by omega), ← Finset.sum_add_distrib]
  refine Finset.sum_congr rfl fun t _ => ?_
  split_ifs
  · rw [zero_add]
  · rw [add_zero]

theorem refProb_cached (s : Fin 4) (K : Fin 1024 → EReal) (N : Fin 4 → EReal) {k v : ℝ} (hk : 0 < k) (hv : 0 < v) (t : Fin 1024) :
    refProb (refScore s K N k) v ⟨t, by omega⟩ = if (t : ℕ) ≤ s then 0 else P s K N k v t := by
  unfold refProb P
  rw [exp_cached s K N hk, sum_exp s K N hk, mul_assoc, div_one_mul hv]
  split_ifs
  · rw [zero_mul]
  · rfl

theorem refProb_new (s : Fin 4) (K : Fin 1024 → EReal) (N : Fin 4 → EReal) {k v : ℝ} (hk : 0 < k) (hv : 0 < v) (u : Fin 4) :
    refProb (refScore s K N k) v ⟨1024 + u, by omega⟩ = if (u : ℕ) ≤ s then P s K N k v ⟨u, by omega⟩ else 0 := by
  unfold refProb P
  rw [exp_new s K N hk, sum_exp s K N hk, mul_assoc, div_one_mul hv]
  split_ifs
  · rfl
  · rw [zero_mul]

theorem refOut_eq (s : Fin 4) (K V : Fin 1024 → EReal) (N W : Fin 4 → EReal) {k v : ℝ} (hk : 0 < k) (hv : 0 < v) :
    refOut s K V N W k v = out s K V N W k v := by
  have hs := s.isLt
  unfold refOut out
  simp only [refProb_cached s K N hk hv, refProb_new s K N hk hv]
  congr 1
  · exact Finset.sum_congr rfl fun t _ => mul_comm _ _
  · rw [sum_first _ fun t ht => if_neg (by omega)]
    refine Finset.sum_congr rfl fun u _ => ?_
    have hu := u.isLt
    split_ifs
    · rw [mul_comm]; congr 2; apply Fin.ext; simp only; omega
    · rw [mul_zero]

/-- THE TWO AGREE: over the slots in base two, with the scale in the exponent, and over the tokens with the scores scaled and
    masked. -/
theorem kerOut_eq_refOut (s : Fin 4) (K V : Fin 1024 → EReal) (N W : Fin 4 → EReal) {k v : ℝ} (hk : 0 < k) (hv : 0 < v) :
    kerOut s K V N W ((k * (Real.log 2)⁻¹ : ℝ) : EReal) v = refOut s K V N W k v :=
  (kerOut_eq s K V N W hk v).trans (refOut_eq s K V N W hk hv).symm

end Cert.Att

end
-- ==== Proof.Val.Ops.lean ====
/- One block of the attention kernel, read at an index on the extended reals: the kernel's arithmetic of one query row over
   one head. -/
module

public import proofs.«01_k».proof.Proof.Run.Blk
public import proofs.«01_k».proof.Proof.Val.Math
public import Idealize.ShloMosaic.Lib.Pointwise

@[expose] public section

set_option maxRecDepth 16384

noncomputable section

namespace Cert.KernelIdeal.Blk

open Cert.KernelIdeal Cert.KernelIdeal.Gen Idealize.ShloMosaic Cert.Att

/-! ## Literals -/

/-- The pattern of the smallest extended real. -/
theorem ofBits_ninf : Ideal.ofBits .f32 4286578688#32 = ⊥ := by simp [Ideal.ofBits, Ideal.ieee]

/-- The zero code. -/
theorem ofBits_zero8 : Ideal.ofBits .fp8e4m3 0#8 = 0 := by simp [Ideal.ofBits, Ideal.e4m3fn]

/-- A choice by a decided bit. -/
theorem select_ite {α : Type} (p : Prop) [Decidable p] (a b : α) : Scalar.select (if p then 1#1 else 0#1) a b = if p then a else b := by
  by_cases h : p <;> simp [h, Scalar.select]

/-! ## The data movement -/

theorem split_apply (x : FVec Ideal S1024x4x128 .fp8e4m3) (r : Fin 1024) (h : Fin 4) (d : Fin 128) : split x (ix3 r h d) = x (ix3 (tok r) h d) := by
  pointwise [split]
  rfl

theorem head1024_apply (h : Fin 4) (x : FVec Ideal S1024x4x128 .fp8e4m3) (r : Fin 1024) (d : Fin 128) : head1024 h x (ix2 r d) = x (ix3 r h d) := by
  match h with
  | 0 => pointwise [head1024]
  | 1 => pointwise [head1024]
  | 2 => pointwise [head1024]
  | 3 => pointwise [head1024]

theorem head32_apply (h : Fin 4) (x : FVec Ideal S32x4x128 .fp8e4m3) (r : Fin 32) (d : Fin 128) : head32 h x (ix2 r d) = x (ix3 r h d) := by
  match h with
  | 0 => pointwise [head32]
  | 1 => pointwise [head32]
  | 2 => pointwise [head32]
  | 3 => pointwise [head32]

theorem newRows_apply (x : FVec Ideal S4x4x128 .fp8e4m3) (r : Fin 32) (h : Fin 4) (d : Fin 128) :
    newRows x (ix3 r h d) = if hr : (r : ℕ) < 16 ∧ (r : ℕ) % 4 = 0 then x (ix3 ⟨(r : ℕ) / 4, by omega⟩ h d) else 0 := by
  pointwise [newRows]
  by_cases h1 : (r : ℕ) < 16
  · refine (dif_pos h1).trans ?_
    by_cases h2 : (r : ℕ) % 4 = 0
    · exact (dif_pos (by omega)).trans (by rw [dif_pos (show (r : ℕ) < 16 ∧ (r : ℕ) % 4 = 0 from ⟨h1, h2⟩)])
    · exact (dif_neg (by omega)).trans (ofBits_zero8.trans (by rw [dif_neg (show ¬ ((r : ℕ) < 16 ∧ (r : ℕ) % 4 = 0) by omega)]))
  · exact (dif_neg h1).trans (ofBits_zero8.trans (by rw [dif_neg (show ¬ ((r : ℕ) < 16 ∧ (r : ℕ) % 4 = 0) by omega)]))

theorem pairOld_lo (h h' : Fin 4) (x : FVec Ideal S1024x4x128 .fp8e4m3) (r : Fin 1024) (d : Fin 128) :
    pairOld h h' x (ix2 r ⟨d, by omega⟩) = x (ix3 (tok r) h d) := by
  pointwise [pairOld]
  rw [head1024_apply, split_apply]

theorem pairOld_hi (h h' : Fin 4) (x : FVec Ideal S1024x4x128 .fp8e4m3) (r : Fin 1024) (d : Fin 128) :
    pairOld h h' x (ix2 r ⟨128 + d, by omega⟩) = x (ix3 (tok r) h' d) := by
  pointwise [pairOld]
  rw [head1024_apply, split_apply]

/-- The new tokens' row `r` of one head: zero away from the rows `4u`. -/
def newAt (h : Fin 4) (x : FVec Ideal S4x4x128 .fp8e4m3) (r : Fin 128) (d : Fin 128) : EReal :=
  if hr : (r : ℕ) < 16 ∧ (r : ℕ) % 4 = 0 then x (ix3 ⟨(r : ℕ) / 4, by omega⟩ h d) else 0

theorem pairNew_lo (h h' : Fin 4) (x : FVec Ideal S4x4x128 .fp8e4m3) (r : Fin 128) (d : Fin 128) :
    pairNew h h' x (ix2 r ⟨d, by omega⟩) = newAt h x r d := by
  pointwise [pairNew]
  by_cases h1 : (r : ℕ) < 32
  · refine (dif_pos h1).trans ?_
    rw [head32_apply, newRows_apply]; rfl
  · exact (dif_neg h1).trans (ofBits_zero8.trans (by unfold newAt; rw [dif_neg (show ¬ ((r : ℕ) < 16 ∧ (r : ℕ) % 4 = 0) by omega)]))

theorem pairNew_hi (h h' : Fin 4) (x : FVec Ideal S4x4x128 .fp8e4m3) (r : Fin 128) (d : Fin 128) :
    pairNew h h' x (ix2 r ⟨128 + d, by omega⟩) = newAt h' x r d := by
  pointwise [pairNew]
  by_cases h1 : (r : ℕ) < 32
  · refine (dif_pos h1).trans ?_
    rw [head32_apply, newRows_apply]; rfl
  · exact (dif_neg h1).trans (ofBits_zero8.trans (by unfold newAt; rw [dif_neg (show ¬ ((r : ℕ) < 16 ∧ (r : ℕ) % 4 = 0) by omega)]))

/-! ## The scores -/

theorem low0 : ∀ (s : Fin 4) (g : Fin 8),
    IntOp.cmpi CmpIPredicate.slt (IntOp.andi (BitVec.ofNat 32 ((s : ℕ) * 16 + (g : ℕ))) 15#32) 8#32 = 1#1 := by decide +kernel

theorem low1 : ∀ (s : Fin 4) (g : Fin 8),
    IntOp.cmpi CmpIPredicate.slt (IntOp.andi (BitVec.ofNat 32 ((s : ℕ) * 16 + 8 + (g : ℕ))) 15#32) 8#32 = 0#1 := by decide +kernel

theorem select_one {α : Type} (a b : α) : Scalar.select 1#1 a b = a := rfl
theorem select_zero {α : Type} (a b : α) : Scalar.select 0#1 a b = b := rfl

theorem sOld_lo (q : FVec Ideal S4x16x128 .bf16) (h h' : Fin 4) (k : FVec Ideal S1024x4x128 .fp8e4m3) (s : Fin 4) (g : Fin 8) (r : Fin 1024) :
    sOld q (pairOld h h' k) (ix4 s 0 g r) = ∑ x : Fin 128, q (ix3 s ⟨g, by omega⟩ x) * k (ix3 (tok r) h x) := by
  pointwise [sOld, qPair, lowRows, pairOld, low0, select_one, select_zero]
  have e : (⟨((s : ℕ) * 16 + (g : ℕ)) % 16, by omega⟩ : Fin 16) = ⟨g, by omega⟩ := Fin.ext (by simp only; omega)
  simp only [zero_mul, Finset.sum_const_zero, add_zero, head1024_apply, split_apply, e]

theorem sOld_hi (q : FVec Ideal S4x16x128 .bf16) (h h' : Fin 4) (k : FVec Ideal S1024x4x128 .fp8e4m3) (s : Fin 4) (g : Fin 8) (r : Fin 1024) :
    sOld q (pairOld h h' k) (ix4 s 1 g r) = ∑ x : Fin 128, q (ix3 s ⟨8 + g, by omega⟩ x) * k (ix3 (tok r) h' x) := by
  pointwise [sOld, qPair, lowRows, pairOld, low1, select_one, select_zero]
  have e : (⟨((s : ℕ) * 16 + 8 + (g : ℕ)) % 16, by omega⟩ : Fin 16) = ⟨8 + g, by omega⟩ := Fin.ext (by simp only; omega)
  simp only [zero_mul, Finset.sum_const_zero, zero_add, head1024_apply, split_apply, e]

/-- A contraction over 256 lanes, in its two halves. -/
theorem sum_256 (f : Fin 256 → EReal) : ∑ x, f x = (∑ x : Fin 128, f ⟨x, by omega⟩) + ∑ x : Fin 128, f ⟨128 + x, by omega⟩ :=
  Fin.sum_univ_add (a := 128) (b := 128) f

theorem qPair_lo_lo (q : FVec Ideal S4x16x128 .bf16) (s : Fin 4) (g : Fin 8) (x : Fin 128) :
    qPair q (ix2 ⟨(s : ℕ) * 16 + g, by omega⟩ ⟨x, by omega⟩) = q (ix3 s ⟨g, by omega⟩ x) := by
  pointwise [qPair, lowRows, low0, select_one, select_zero]
  exact congrArg q ((ix3_inj ..).2 ⟨rfl, Fin.ext (by simp only; omega), rfl⟩)

theorem qPair_lo_hi (q : FVec Ideal S4x16x128 .bf16) (s : Fin 4) (g : Fin 8) (x : Fin 128) :
    qPair q (ix2 ⟨(s : ℕ) * 16 + g, by omega⟩ ⟨128 + x, by omega⟩) = 0 := by
  pointwise [qPair, lowRows, low0, select_one, select_zero]

theorem qPair_hi_lo (q : FVec Ideal S4x16x128 .bf16) (s : Fin 4) (g : Fin 8) (x : Fin 128) :
    qPair q (ix2 ⟨(s : ℕ) * 16 + 8 + g, by omega⟩ ⟨x, by omega⟩) = 0 := by
  pointwise [qPair, lowRows, low1, select_one, select_zero]

theorem qPair_hi_hi (q : FVec Ideal S4x16x128 .bf16) (s : Fin 4) (g : Fin 8) (x : Fin 128) :
    qPair q (ix2 ⟨(s : ℕ) * 16 + 8 + g, by omega⟩ ⟨128 + x, by omega⟩) = q (ix3 s ⟨8 + g, by omega⟩ x) := by
  pointwise [qPair, lowRows, low1, select_one, select_zero]
  exact congrArg q ((ix3_inj ..).2 ⟨rfl, Fin.ext (by simp only; omega), rfl⟩)

theorem sNew_lo (q : FVec Ideal S4x16x128 .bf16) (h h' : Fin 4) (k : FVec Ideal S4x4x128 .fp8e4m3) (s : Fin 4) (g : Fin 8) (r : Fin 128) :
    sNew q (pairNew h h' k) (ix4 s 0 g r) = ∑ x : Fin 128, q (ix3 s ⟨g, by omega⟩ x) * newAt h k r x := by
  pointwise [sNew]
  rw [sum_256]
  simp only [qPair_lo_lo, qPair_lo_hi, pairNew_lo, pairNew_hi, zero_mul, Finset.sum_const_zero, add_zero]

theorem sNew_hi (q : FVec Ideal S4x16x128 .bf16) (h h' : Fin 4) (k : FVec Ideal S4x4x128 .fp8e4m3) (s : Fin 4) (g : Fin 8) (r : Fin 128) :
    sNew q (pairNew h h' k) (ix4 s 1 g r) = ∑ x : Fin 128, q (ix3 s ⟨8 + g, by omega⟩ x) * newAt h' k r x := by
  pointwise [sNew]
  rw [sum_256]
  simp only [qPair_hi_lo, qPair_hi_hi, pairNew_lo, pairNew_hi, zero_mul, Finset.sum_const_zero, zero_add]

theorem isNew_apply (s : Fin 4) (g : Fin 8) (r : Fin 128) :
    isNew (ix3 s g r) = if New s ⟨r, by omega⟩ then 1#1 else 0#1 := by
  pointwise [isNew]
  revert s r
  decide +kernel

theorem prob_apply (c v : EReal) (x : FVec Ideal S4x8x1024 .f32) (s : Fin 4) (g : Fin 8) (r : Fin 1024) :
    prob (F := Ideal) c v x (ix3 s g r) = kerProb (fun r => x (ix3 s g r)) c v r := by
  pointwise [prob, probOf, expo]
  rw [ofBits_ninf]
  rfl

theorem score0_apply (n : FVec Ideal S4x2x8x128 .f32) (o : FVec Ideal S4x2x8x1024 .f32) (s : Fin 4) (g : Fin 8) (r : Fin 1024) :
    score0 n o (ix3 s g r) = if h : New s r then n (ix4 s 0 g ⟨r, by have := h.2; omega⟩) else o (ix4 s 0 g r) := by
  pointwise [score0, score, isNew_apply, select_ite]
  by_cases h1 : (r : ℕ) < 128
  · refine (dif_pos h1).trans ?_
    by_cases h2 : New s r
    · exact (if_pos h2).trans (by rw [dif_pos h2])
    · exact (if_neg h2).trans ((if_neg h2).trans (by rw [dif_neg h2]))
  · refine (dif_neg h1).trans ?_
    refine Eq.trans ?_ (dif_neg (c := New s r) (fun h => by have := h.2; omega)).symm
    exact congrArg o ((ix4_inj ..).2 ⟨rfl, rfl, rfl, Fin.ext (by simp only; omega)⟩)

theorem score1_apply (n : FVec Ideal S4x2x8x128 .f32) (o : FVec Ideal S4x2x8x1024 .f32) (s : Fin 4) (g : Fin 8) (r : Fin 1024) :
    score1 n o (ix3 s g r) = if h : New s r then n (ix4 s 1 g ⟨r, by have := h.2; omega⟩) else o (ix4 s 1 g r) := by
  pointwise [score1, score, isNew_apply, select_ite]
  by_cases h1 : (r : ℕ) < 128
  · refine (dif_pos h1).trans ?_
    by_cases h2 : New s r
    · exact (if_pos h2).trans (by rw [dif_pos h2])
    · exact (if_neg h2).trans ((if_neg h2).trans (by rw [dif_neg h2]))
  · refine (dif_neg h1).trans ?_
    refine Eq.trans ?_ (dif_neg (c := New s r) (fun h => by have := h.2; omega)).symm
    exact congrArg o ((ix4_inj ..).2 ⟨rfl, rfl, rfl, Fin.ext (by simp only; omega)⟩)

/-- On a visible new token's row the row is the token's. -/
theorem newAt_new (h : Fin 4) (x : FVec Ideal S4x4x128 .fp8e4m3) (s : Fin 4) (r : Fin 1024) (hr : New s r) (d : Fin 128) :
    newAt h x ⟨r, by have := hr.2; omega⟩ d = x (ix3 (low r) h d) := by
  have h1 := hr.1
  have h2 := hr.2
  refine (dif_pos ⟨by simp only; omega, h1⟩).trans ?_
  exact congrArg x ((ix3_inj ..).2 ⟨Fin.ext (by simp only [low]; omega), rfl, rfl⟩)

/-- The scores of the pair's first head. -/
theorem score_lo (q : FVec Ideal S4x16x128 .bf16) (h h' : Fin 4) (k : FVec Ideal S1024x4x128 .fp8e4m3) (kn : FVec Ideal S4x4x128 .fp8e4m3)
    (s : Fin 4) (g : Fin 8) (r : Fin 1024) :
    score0 (sNew q (pairNew h h' kn)) (sOld q (pairOld h h' k)) (ix3 s g r)
      = kerScore s (fun t => ∑ x : Fin 128, q (ix3 s ⟨g, by omega⟩ x) * k (ix3 t h x)) (fun u => ∑ x : Fin 128, q (ix3 s ⟨g, by omega⟩ x) * kn (ix3 u h x)) r := by
  rw [score0_apply]
  unfold kerScore
  by_cases hr : New s r
  · rw [dif_pos hr, if_pos hr, sNew_lo]
    exact Finset.sum_congr rfl fun x _ => congrArg (q _ * ·) (newAt_new h kn s r hr x)
  · rw [dif_neg hr, if_neg hr, sOld_lo]

/-- The scores of the pair's second head. -/
theorem score_hi (q : FVec Ideal S4x16x128 .bf16) (h h' : Fin 4) (k : FVec Ideal S1024x4x128 .fp8e4m3) (kn : FVec Ideal S4x4x128 .fp8e4m3)
    (s : Fin 4) (g : Fin 8) (r : Fin 1024) :
    score1 (sNew q (pairNew h h' kn)) (sOld q (pairOld h h' k)) (ix3 s g r)
      = kerScore s (fun t => ∑ x : Fin 128, q (ix3 s ⟨8 + g, by omega⟩ x) * k (ix3 t h' x)) (fun u => ∑ x : Fin 128, q (ix3 s ⟨8 + g, by omega⟩ x) * kn (ix3 u h' x)) r := by
  rw [score1_apply]
  unfold kerScore
  by_cases hr : New s r
  · rw [dif_pos hr, if_pos hr, sNew_hi]
    exact Finset.sum_congr rfl fun x _ => congrArg (q _ * ·) (newAt_new h' kn s r hr x)
  · rw [dif_neg hr, if_neg hr, sOld_hi]

theorem gather_lo (o : FVec Ideal S64x256 .f32) (s : Fin 4) (g : Fin 8) (d : Fin 128) :
    gather o (ix4 0 s ⟨g, by omega⟩ d) = o (ix2 ⟨(s : ℕ) * 16 + g, by omega⟩ ⟨d, by omega⟩) := by
  pointwise [gather]
  refine (dif_pos (by omega)).trans ?_
  exact congrArg o ((ix2_inj ..).2 ⟨Fin.ext (by simp only; omega), rfl⟩)

theorem gather_hi (o : FVec Ideal S64x256 .f32) (s : Fin 4) (g : Fin 8) (d : Fin 128) :
    gather o (ix4 0 s ⟨8 + g, by omega⟩ d) = o (ix2 ⟨(s : ℕ) * 16 + 8 + g, by omega⟩ ⟨128 + d, by omega⟩) := by
  pointwise [gather]
  refine (dif_neg (by omega)).trans ?_
  exact congrArg o ((ix2_inj ..).2 ⟨Fin.ext (by simp only; omega), rfl⟩)

/-- A sum over the slots, in its first 128 and the others. -/
theorem sum_1024 (f : Fin 1024 → EReal) : ∑ r, f r = (∑ r : Fin 128, f ⟨r, by omega⟩) + ∑ r : Fin 896, f ⟨128 + r, by omega⟩ :=
  Fin.sum_univ_add (a := 128) (b := 896) f

theorem not_new (s : Fin 4) (r : Fin 896) : ¬ New s ⟨128 + r, by omega⟩ := fun h => by have := h.2; simp only at this; omega

/-- A row's weighted sums: the cached values away from the new tokens' slots and the new values on them. -/
def mixRow (s : Fin 4) (p : Fin 1024 → EReal) (V : Fin 1024 → EReal) (W : Fin 128 → EReal) : EReal :=
  (∑ r : Fin 1024, (if New s r then 0 else p r) * V r) + ∑ r : Fin 128, (if New s ⟨r, by omega⟩ then p ⟨r, by omega⟩ else 0) * W r

theorem mixed_lo (p0 p1 : FVec Ideal S4x8x1024 .f32) (vo : FVec Ideal S1024x256 .fp8e4m3) (vn : FVec Ideal S128x256 .fp8e4m3) (s : Fin 4) (g : Fin 8) (d : Fin 256) :
    mixed p0 p1 vo vn (ix2 ⟨(s : ℕ) * 16 + g, by omega⟩ d) = mixRow s (fun r => p0 (ix3 s g r)) (fun r => vo (ix2 r d)) (fun r => vn (ix2 r d)) := by
  have e : ((s : ℕ) * 16 + (g : ℕ)) / 8 % 2 < 1 := by omega
  pointwise [mixed, pOld, pNew, isNew_apply, select_ite]
  unfold mixRow
  rw [sum_1024]
  simp only [dif_pos e, not_new, if_false]

theorem mixed_hi (p0 p1 : FVec Ideal S4x8x1024 .f32) (vo : FVec Ideal S1024x256 .fp8e4m3) (vn : FVec Ideal S128x256 .fp8e4m3) (s : Fin 4) (g : Fin 8) (d : Fin 256) :
    mixed p0 p1 vo vn (ix2 ⟨(s : ℕ) * 16 + 8 + g, by omega⟩ d) = mixRow s (fun r => p1 (ix3 s g r)) (fun r => vo (ix2 r d)) (fun r => vn (ix2 r d)) := by
  have e : ¬ ((s : ℕ) * 16 + 8 + (g : ℕ)) / 8 % 2 < 1 := by omega
  pointwise [mixed, pOld, pNew, isNew_apply, select_ite]
  unfold mixRow
  rw [sum_1024]
  simp only [dif_neg e, not_new, if_false]

/-- A row's weighted sums, the new values' rows read as the tokens'. -/
theorem mixRow_eq (s : Fin 4) (p V : Fin 1024 → EReal) (h : Fin 4) (x : FVec Ideal S4x4x128 .fp8e4m3) (d : Fin 128) :
    mixRow s p V (fun r => newAt h x r d)
      = (∑ r : Fin 1024, (if New s r then 0 else p r) * V r) + ∑ r : Fin 1024, (if New s r then p r * x (ix3 (low r) h d) else 0) := by
  unfold mixRow
  congr 1
  rw [sum_1024 fun r => if New s r then p r * x (ix3 (low r) h d) else 0]
  simp only [not_new, if_false, Finset.sum_const_zero, add_zero]
  refine Finset.sum_congr rfl fun r _ => ?_
  by_cases hr : New s ⟨r, by omega⟩
  · rw [if_pos hr, if_pos hr]; exact congrArg (p _ * ·) (newAt_new h x s ⟨r, by omega⟩ hr d)
  · rw [if_neg hr, if_neg hr, zero_mul]

/-- THE BLOCK at the pair's first head. -/
theorem blk_lo (h h' : Fin 4) (q : FVec Ideal S4x16x128 .bf16) (kw vw : FVec Ideal S1024x4x128 .fp8e4m3) (kn vn : FVec Ideal S4x4x128 .fp8e4m3)
    (c0 c1 v0 v1 : EReal) (s : Fin 4) (g : Fin 8) (d : Fin 128) :
    blk (F := Ideal) h h' q kw vw kn vn c0 c1 v0 v1 (ix4 0 s ⟨g, by omega⟩ d)
      = kerOut s (fun t => ∑ x : Fin 128, q (ix3 s ⟨g, by omega⟩ x) * kw (ix3 t h x)) (fun t => vw (ix3 t h d))
          (fun u => ∑ x : Fin 128, q (ix3 s ⟨g, by omega⟩ x) * kn (ix3 u h x)) (fun u => vn (ix3 u h d)) c0 v0 := by
  unfold blk
  rw [gather_lo, mixed_lo]
  simp only [pairOld_lo, pairNew_lo]
  rw [mixRow_eq]
  unfold kerOut
  simp only [prob_apply, score_lo]

/-- THE BLOCK at the pair's second head. -/
theorem blk_hi (h h' : Fin 4) (q : FVec Ideal S4x16x128 .bf16) (kw vw : FVec Ideal S1024x4x128 .fp8e4m3) (kn vn : FVec Ideal S4x4x128 .fp8e4m3)
    (c0 c1 v0 v1 : EReal) (s : Fin 4) (g : Fin 8) (d : Fin 128) :
    blk (F := Ideal) h h' q kw vw kn vn c0 c1 v0 v1 (ix4 0 s ⟨8 + g, by omega⟩ d)
      = kerOut s (fun t => ∑ x : Fin 128, q (ix3 s ⟨8 + g, by omega⟩ x) * kw (ix3 t h' x)) (fun t => vw (ix3 t h' d))
          (fun u => ∑ x : Fin 128, q (ix3 s ⟨8 + g, by omega⟩ x) * kn (ix3 u h' x)) (fun u => vn (ix3 u h' d)) c1 v1 := by
  unfold blk
  rw [gather_hi, mixed_hi]
  simp only [pairOld_hi, pairNew_hi]
  rw [mixRow_eq]
  unfold kerOut
  simp only [prob_apply, score_hi]

end Cert.KernelIdeal.Blk

end
-- ==== Proof.Val.Scal.lean ====
/- The scales and the quantiser on the extended reals: a power of two from its exponent field, the constants of the softmax
   scale and of the logarithm, and the codes at an index. -/
module

public import proofs.«01_k».proof.Proof.Run.Blk
public import Idealize.ShloMosaic.Lib.Pointwise

@[expose] public section

set_option maxRecDepth 16384

noncomputable section

namespace Cert.KernelIdeal.Blk

open Cert.KernelIdeal Cert.KernelIdeal.Gen Idealize.ShloMosaic

/-- An exponent of a normal power of two, as the precondition asks for. -/
def InExp (e : BitVec 32) : Prop := -126 ≤ e.toInt ∧ e.toInt ≤ 126

/-- The real power of two. -/
def two (e : BitVec 32) : ℝ := (2 : ℝ) ^ e.toInt

theorem two_pos (e : BitVec 32) : 0 < two e := zpow_pos (by norm_num) _

/-- The bits the kernel forms. -/
def bitsOf (e : BitVec 32) : BitVec 32 := Scalar.shli (Scalar.minsi 255#32 (Scalar.maxsi 0#32 (Scalar.addi e 127#32))) 23#32

/-- The exponent counted from -127. -/
def ofBiased (n : Fin 254) : BitVec 32 := BitVec.ofNat 32 n - 127#32

theorem toInt_ofBiased : ∀ n : Fin 254, (ofBiased n).toInt = (n : ℤ) - 127 := by decide +kernel

theorem fields : ∀ n : Fin 254, (bitsOf (ofBiased n)).extractLsb' 31 1 = 0#1 ∧ ((bitsOf (ofBiased n)).extractLsb' 23 8).toNat = n
    ∧ ((bitsOf (ofBiased n)).extractLsb' 0 23).toNat = 0 := by decide +kernel

theorem exists_biased (e : BitVec 32) (h : InExp e) : ∃ n : Fin 254, 0 < (n : ℕ) ∧ e = ofBiased n := by
  obtain ⟨h1, h2⟩ := h
  refine ⟨⟨(e.toInt + 127).toNat, by omega⟩, by simp only; omega, ?_⟩
  apply BitVec.eq_of_toInt_eq
  rw [toInt_ofBiased]; simp only; omega

/-- The negated exponent is one too. -/
theorem InExp.neg {e : BitVec 32} (h : InExp e) : InExp (Scalar.subi 0#32 e) := by
  obtain ⟨n, hn, rfl⟩ := exists_biased e h
  have key : ∀ n : Fin 254, 0 < (n : ℕ) → -126 ≤ (Scalar.subi 0#32 (ofBiased n)).toInt ∧ (Scalar.subi 0#32 (ofBiased n)).toInt ≤ 126 := by decide +kernel
  exact key n hn

/-- A pattern without sign and fraction denotes a power of two. -/
theorem ieee_pow (b : BitVec 32) (n : ℕ) (h0 : 0 < n) (h1 : n < 254) (f1 : b.extractLsb' 31 1 = 0#1) (f2 : (b.extractLsb' 23 8).toNat = n)
    (f3 : (b.extractLsb' 0 23).toNat = 0) : Ideal.ieee 8 23 b = (((2 : ℝ) ^ ((n : ℤ) - 127) : ℝ) : EReal) := by
  have e1 : ¬ n = 2 ^ 8 - 1 := by norm_num; omega
  have e2 : ¬ n = 0 := by omega
  unfold Ideal.ieee
  simp only [show 8 + 23 = 31 from rfl, f1, f2, f3]
  rw [if_neg e1, if_neg e2]
  refine congrArg _ ?_
  rw [show ((0#1 : BitVec 1) == 1#1) = false from rfl]
  rw [show ((n : ℤ) - (2 ^ (8 - 1) - 1) - (23 : ℕ) : ℤ) = ((n : ℤ) - 127) - 23 by norm_num, zpow_sub₀ (by norm_num : (2:ℝ) ≠ 0) _ 23]
  norm_num
  ring

/-- The kernel's power of two is the real power of two. -/
theorem pow2_eq (e : BitVec 32) (h : InExp e) : pow2 (F := Ideal) e = ((two e : ℝ) : EReal) := by
  obtain ⟨n, hn, rfl⟩ := exists_biased e h
  obtain ⟨f1, f2, f3⟩ := fields n
  unfold two
  rw [toInt_ofBiased, ← ieee_pow (bitsOf (ofBiased n)) n hn n.isLt f1 f2 f3]
  rfl

/-- The reference's power of two is the real power of two. -/
theorem exp2_eq (e : BitVec 32) : Ideal.exp2 ((e.toInt : ℝ) : EReal) = ((two e : ℝ) : EReal) := by
  rw [Ideal.exp2_coe, Real.rpow_eq_pow, Real.rpow_intCast]; rfl

/-- The softmax scale, the real its pattern denotes. -/
def sm : ℝ := (11863283 : ℝ) * (2 : ℝ) ^ (-27 : ℤ)

theorem sm_pos : 0 < sm := by unfold sm; positivity

theorem ofBits_sm : Ideal.ofBits .f32 1035273459#32 = ((sm : ℝ) : EReal) := by
  simp [Ideal.ofBits, Ideal.ieee, sm, -EReal.coe_mul]

/-- The named constant is the base-two logarithm of e. -/
theorem log2_e : Named.named (F := Ideal) Cert.KernelIdeal.κ "log2_e" (φ := .f32) 1069066811#32 = (((Real.log 2)⁻¹ : ℝ) : EReal) :=
  IdealRules.named_const.ideal_named_scalar _ _ _ _ rfl

/-- A head's factor in the exponent. -/
theorem cExp_eq (e : BitVec 32) (h : InExp e) : cExp (F := Ideal) e = ((two e * sm * (Real.log 2)⁻¹ : ℝ) : EReal) := by
  pointwise [cExp, pow2_eq e h, ofBits_sm, log2_e]
  rw [← EReal.coe_mul, ← EReal.coe_mul]

/-- The code of a value under a head's exponent: the value over the scale, kept within the format's range. -/
def code (e : BitVec 32) (x : EReal) : EReal :=
  min (Ideal.ofBits .f32 1138753536#32) (max (Ideal.ofBits .f32 3286237184#32) (x * ((two (Scalar.subi 0#32 e) : ℝ) : EReal)))

theorem quant_apply (e : Fin 4 → BitVec 32) (he : ∀ h, InExp (e h)) (x : FVec Ideal S4x4x128 .bf16) (s h : Fin 4) (d : Fin 128) :
    quant e x (ix3 s h d) = code (e h) (x (ix3 s h d)) := by
  pointwise [quant, invVec, pow2_eq _ (he _).neg]
  unfold code
  match h with
  | 0 => rfl
  | 1 => rfl
  | 2 => rfl
  | 3 => rfl

end Cert.KernelIdeal.Blk

end
-- ==== Proof.Val.Spec.lean ====
/- What both programs compute, entry by entry: codes, scales and the attention over the window and the new tokens. -/
module

public import proofs.«01_k».proof.Proof.Val.Math
public import proofs.«01_k».proof.Proof.Val.Scal

@[expose] public section

set_option maxRecDepth 16384

noncomputable section

namespace Cert.Att

open Idealize.ShloMosaic Cert.KernelIdeal.Blk

/-- Where the window of a row of length `l` starts. -/
def first (l : BitVec 32) : BitVec 32 := Scalar.minsi 130048#32 (Scalar.maxsi 0#32 (Scalar.subi l 1024#32))

/-- The cache position of the window's token `t`. -/
def place (l : BitVec 32) (t : Fin 1024) : Fin 131072 := ⟨((first l).toNat + t) % 131072, Nat.mod_lt _ (by norm_num)⟩

/-- The head a query row reads. -/
def head (r : Fin 32) : Fin 4 := ⟨(r : ℕ) / 8, by omega⟩

/-- The attention at batch row `b`, step `s`, query row `r`, lane `d`: lengths `L`, exponents `ke`, `ve`, queries `q`, new keys and
values `kn`, `vn`, caches `K`, `V`. -/
def att (L ke ve : Fin 4 → BitVec 32) (q : Fin 4 → Fin 4 → Fin 32 → Fin 128 → EReal) (kn vn : Fin 4 → Fin 4 → Fin 4 → Fin 128 → EReal)
    (K V : Fin 4 → Fin 131072 → Fin 4 → Fin 128 → EReal) (b s : Fin 4) (r : Fin 32) (d : Fin 128) : EReal :=
  refOut s (fun t => ∑ x : Fin 128, q b s r x * K b (place (L b) t) (head r) x) (fun t => V b (place (L b) t) (head r) d)
    (fun u => ∑ x : Fin 128, q b s r x * code (ke (head r)) (kn b u (head r) x)) (fun u => code (ve (head r)) (vn b u (head r) d))
    ((two (ke (head r)) * sm : ℝ) : EReal) ((two (ve (head r)) : ℝ) : EReal)

end Cert.Att

end
-- ==== Proof.Val.Final.lean ====
/- The kernel's loads and stores read at an index, and its result arrays as functions of its argument arrays, on the extended
   reals. -/
module

public import proofs.«01_k».proof.Proof.Run.Value
public import proofs.«01_k».proof.Proof.Val.Ops
public import proofs.«01_k».proof.Proof.Val.Spec
public import Idealize.ShloMosaic.Lib.WholeRead

@[expose] public section

set_option maxRecDepth 16384

noncomputable section

namespace Cert.KernelIdeal.Run

open Cert.KernelIdeal Cert.KernelIdeal.Gen Cert.KernelIdeal.Blk Idealize.ShloMosaic Idealize.ShloMosaic.TcCoe Idealize.ShloMosaic.Tactic Idealize.SL.Sem Cert.Att

/-! ## The loads -/

theorem words_eq (M : Memref sig .tc .smem S4 .i32) (hM : M.IsWhole) (x : Vec Ideal S4 .i32) (b : Fin 4) : words M hM x b = x (ix1 b) := by
  match b with
  | 0 => exact (hM.readAt_unread x _ _).trans (congrArg x (funext fun a => by match a with | ⟨0, _⟩ => rfl))
  | 1 => exact (hM.readAt_unread x _ _).trans (congrArg x (funext fun a => by match a with | ⟨0, _⟩ => rfl))
  | 2 => exact (hM.readAt_unread x _ _).trans (congrArg x (funext fun a => by match a with | ⟨0, _⟩ => rfl))
  | 3 => exact (hM.readAt_unread x _ _).trans (congrArg x (funext fun a => by match a with | ⟨0, _⟩ => rfl))

/-- Dropping the leading axis of a window. -/
theorem cast_window {α : Type} (x : S1x1024x4x128.Idx → α) (hc : Shape.ShapeCasts S1x1024x4x128 S1024x4x128) (t : Fin 1024) (h : Fin 4) (d : Fin 128) :
    shapeCast S1024x4x128 x hc (ix3 t h d) = x (ix4 0 t h d) := by
  pointwise []

/-- Dropping the leading axis of a block of queries. -/
theorem cast_q {α : Type} (x : S1x4x16x128.Idx → α) (hc : Shape.ShapeCasts S1x4x16x128 S4x16x128) (i : Fin 4) (j : Fin 16) (d : Fin 128) :
    shapeCast S4x16x128 x hc (ix3 i j d) = x (ix4 0 i j d) := by
  pointwise []

/-- Dropping the leading axis of a row of keys or values. -/
theorem cast_new {α : Type} (x : S1x4x4x128.Idx → α) (hc : Shape.ShapeCasts S1x4x4x128 S4x4x128) (s h : Fin 4) (d : Fin 128) :
    shapeCast S4x4x128 x hc (ix3 s h d) = x (ix4 0 s h d) := by
  pointwise []

/-- Adding it. -/
theorem cast_back {α : Type} (x : S4x4x128.Idx → α) (hc : Shape.ShapeCasts S4x4x128 S1x4x4x128) (z : Fin 1) (s h : Fin 4) (d : Fin 128) :
    shapeCast S1x4x4x128 x hc (ix4 z s h d) = x (ix3 s h d) := by
  pointwise []

/-- The window ends within the cache. -/
theorem first_le (l : BitVec 32) : (first l).toNat + 1024 ≤ 131072 := k0_off1_inb l (k0_chk1_all l) 1

/-- The index a window's element has in the cache. -/
theorem place_idx (l : BitVec 32) (b : Fin 4) (off : Fin 4 → ℕ) (ho : off = ![(b : ℕ), (first l).toNat, 0, 0]) (inb : ∀ a, off a + S1x1024x4x128.size a ≤ S4x131072x4x128.size a)
    (t : Fin 1024) (h : Fin 4) (d : Fin 128) : (Rect.unit (s := S4x131072x4x128) off S1x1024x4x128.size inb).emb (ix4 0 t h d) = ix4 b (place l t) h d := by
  subst ho
  refine funext fun a => Fin.ext ?_
  have hl := first_le l
  match a with
  | ⟨0, _⟩ => show (b : ℕ) + 1 * 0 = b; omega
  | ⟨1, _⟩ => show (first l).toNat + 1 * (t : ℕ) = ((first l).toNat + t) % 131072; omega
  | ⟨2, _⟩ => show 0 + 1 * (h : ℕ) = h; omega
  | ⟨3, _⟩ => show 0 + 1 * (d : ℕ) = d; omega

theorem window3_eq (off : Fin 4 → ℕ) (inb : ∀ a, off a + S1x1024x4x128.size a ≤ S4x131072x4x128.size a) (f : S4x131072x4x128.Idx → EReal)
    (t : Fin 1024) (h : Fin 4) (d : Fin 128) :
    window (F := Ideal) (Memref.whole main_arg3) off inb f (ix3 t h d) = f ((Rect.unit (s := S4x131072x4x128) off S1x1024x4x128.size inb).emb (ix4 0 t h d)) :=
  cast_window (fun j => f ((Rect.unit (s := S4x131072x4x128) off S1x1024x4x128.size inb).emb j)) (by decide) t h d

theorem window4_eq (off : Fin 4 → ℕ) (inb : ∀ a, off a + S1x1024x4x128.size a ≤ S4x131072x4x128.size a) (f : S4x131072x4x128.Idx → EReal)
    (t : Fin 1024) (h : Fin 4) (d : Fin 128) :
    window (F := Ideal) (Memref.whole main_arg4) off inb f (ix3 t h d) = f ((Rect.unit (s := S4x131072x4x128) off S1x1024x4x128.size inb).emb (ix4 0 t h d)) :=
  cast_window (fun j => f ((Rect.unit (s := S4x131072x4x128) off S1x1024x4x128.size inb).emb j)) (by decide) t h d

theorem kWin_eq (c : Dev nD) (f : HbBuf0 (F := Ideal) c hbM0_3) (l : BitVec 32) (b : Fin 4) (t : Fin 1024) (h : Fin 4) (d : Fin 128) :
    kWin (F := Ideal) c f l b (ix3 t h d) = f (ix4 b (place l t) h d) := by
  match b with
  | 0 => exact (window3_eq _ _ f t h d).trans (congrArg f (place_idx l 0 _ rfl _ t h d))
  | 1 => exact (window3_eq _ _ f t h d).trans (congrArg f (place_idx l 1 _ rfl _ t h d))
  | 2 => exact (window3_eq _ _ f t h d).trans (congrArg f (place_idx l 2 _ rfl _ t h d))
  | 3 => exact (window3_eq _ _ f t h d).trans (congrArg f (place_idx l 3 _ rfl _ t h d))

theorem vWin_eq (c : Dev nD) (f : HbBuf0 (F := Ideal) c hbM0_4) (l : BitVec 32) (b : Fin 4) (t : Fin 1024) (h : Fin 4) (d : Fin 128) :
    vWin (F := Ideal) c f l b (ix3 t h d) = f (ix4 b (place l t) h d) := by
  match b with
  | 0 => exact (window4_eq _ _ f t h d).trans (congrArg f (place_idx l 0 _ rfl _ t h d))
  | 1 => exact (window4_eq _ _ f t h d).trans (congrArg f (place_idx l 1 _ rfl _ t h d))
  | 2 => exact (window4_eq _ _ f t h d).trans (congrArg f (place_idx l 2 _ rfl _ t h d))
  | 3 => exact (window4_eq _ _ f t h d).trans (congrArg f (place_idx l 3 _ rfl _ t h d))

/-- A load of a buffer one whole store filled reads what was stored. -/
theorem readCov_whole {S : Shape} {e : EltTy} (M : Memref sig .tc .vmem S e) (q : S.Idx → Elt Ideal e) (B : LoadRect S) (j : B.shape.Idx) :
    M.view.readCov [⟨Rect.whole S, q⟩] B j = q (B.idx j) := by
  rw [View.readCov_eq_canon']
  have e := View.canon_cons_emb (Val := Elt Ideal) (Rect.whole S) q [] (B.idx j)
  rw [Rect.emb_whole_apply] at e
  exact e

theorem qPart_eq (M : Memref sig .tc .vmem S4x4x32x128 .bf16) (q : S4x4x32x128.Idx → Elt Ideal .bf16) (b : Fin 4) (p : Fin 2) (i : Fin 4) (j : Fin 16) (d : Fin 128) :
    qPart (F := Ideal) M q b p (ix3 i j d) = q (ix4 b i ⟨16 * (p : ℕ) + j, by omega⟩ d) := by
  match b, p with
  | 0, 0 =>
    show shapeCast (α := Elt Ideal .bf16) S4x16x128 (s := S1x4x16x128) (M.view.readCov [⟨Rect.whole S4x4x32x128, q⟩] (Rect.unit (s := S4x4x32x128) ![0, 0, 0, 0] S1x4x16x128.size inb_S4x4x32x128_S1x4x16x128_0_0_0_0).toLoadRect) shapeCasts_S1x4x16x128_S4x16x128 (ix3 i j d) = _
    rw [cast_q, readCov_whole]
    refine congrArg q (funext fun a => Fin.ext ?_)
    match a with
    | ⟨0, _⟩ => show 0 + 1 * 0 = 0; omega
    | ⟨1, _⟩ => show 0 + 1 * (i : ℕ) = i; omega
    | ⟨2, _⟩ => show 0 + 1 * (j : ℕ) = 16 * 0 + j; omega
    | ⟨3, _⟩ => show 0 + 1 * (d : ℕ) = d; omega
  | 0, 1 =>
    show shapeCast (α := Elt Ideal .bf16) S4x16x128 (s := S1x4x16x128) (M.view.readCov [⟨Rect.whole S4x4x32x128, q⟩] (Rect.unit (s := S4x4x32x128) ![0, 0, 16, 0] S1x4x16x128.size inb_S4x4x32x128_S1x4x16x128_0_0_16_0).toLoadRect) shapeCasts_S1x4x16x128_S4x16x128 (ix3 i j d) = _
    rw [cast_q, readCov_whole]
    refine congrArg q (funext fun a => Fin.ext ?_)
    match a with
    | ⟨0, _⟩ => show 0 + 1 * 0 = 0; omega
    | ⟨1, _⟩ => show 0 + 1 * (i : ℕ) = i; omega
    | ⟨2, _⟩ => show 16 + 1 * (j : ℕ) = 16 * 1 + j; omega
    | ⟨3, _⟩ => show 0 + 1 * (d : ℕ) = d; omega
  | 1, 0 =>
    show shapeCast (α := Elt Ideal .bf16) S4x16x128 (s := S1x4x16x128) (M.view.readCov [⟨Rect.whole S4x4x32x128, q⟩] (Rect.unit (s := S4x4x32x128) ![1, 0, 0, 0] S1x4x16x128.size inb_S4x4x32x128_S1x4x16x128_1_0_0_0).toLoadRect) shapeCasts_S1x4x16x128_S4x16x128 (ix3 i j d) = _
    rw [cast_q, readCov_whole]
    refine congrArg q (funext fun a => Fin.ext ?_)
    match a with
    | ⟨0, _⟩ => show 1 + 1 * 0 = 1; omega
    | ⟨1, _⟩ => show 0 + 1 * (i : ℕ) = i; omega
    | ⟨2, _⟩ => show 0 + 1 * (j : ℕ) = 16 * 0 + j; omega
    | ⟨3, _⟩ => show 0 + 1 * (d : ℕ) = d; omega
  | 1, 1 =>
    show shapeCast (α := Elt Ideal .bf16) S4x16x128 (s := S1x4x16x128) (M.view.readCov [⟨Rect.whole S4x4x32x128, q⟩] (Rect.unit (s := S4x4x32x128) ![1, 0, 16, 0] S1x4x16x128.size inb_S4x4x32x128_S1x4x16x128_1_0_16_0).toLoadRect) shapeCasts_S1x4x16x128_S4x16x128 (ix3 i j d) = _
    rw [cast_q, readCov_whole]
    refine congrArg q (funext fun a => Fin.ext ?_)
    match a with
    | ⟨0, _⟩ => show 1 + 1 * 0 = 1; omega
    | ⟨1, _⟩ => show 0 + 1 * (i : ℕ) = i; omega
    | ⟨2, _⟩ => show 16 + 1 * (j : ℕ) = 16 * 1 + j; omega
    | ⟨3, _⟩ => show 0 + 1 * (d : ℕ) = d; omega
  | 2, 0 =>
    show shapeCast (α := Elt Ideal .bf16) S4x16x128 (s := S1x4x16x128) (M.view.readCov [⟨Rect.whole S4x4x32x128, q⟩] (Rect.unit (s := S4x4x32x128) ![2, 0, 0, 0] S1x4x16x128.size inb_S4x4x32x128_S1x4x16x128_2_0_0_0).toLoadRect) shapeCasts_S1x4x16x128_S4x16x128 (ix3 i j d) = _
    rw [cast_q, readCov_whole]
    refine congrArg q (funext fun a => Fin.ext ?_)
    match a with
    | ⟨0, _⟩ => show 2 + 1 * 0 = 2; omega
    | ⟨1, _⟩ => show 0 + 1 * (i : ℕ) = i; omega
    | ⟨2, _⟩ => show 0 + 1 * (j : ℕ) = 16 * 0 + j; omega
    | ⟨3, _⟩ => show 0 + 1 * (d : ℕ) = d; omega
  | 2, 1 =>
    show shapeCast (α := Elt Ideal .bf16) S4x16x128 (s := S1x4x16x128) (M.view.readCov [⟨Rect.whole S4x4x32x128, q⟩] (Rect.unit (s := S4x4x32x128) ![2, 0, 16, 0] S1x4x16x128.size inb_S4x4x32x128_S1x4x16x128_2_0_16_0).toLoadRect) shapeCasts_S1x4x16x128_S4x16x128 (ix3 i j d) = _
    rw [cast_q, readCov_whole]
    refine congrArg q (funext fun a => Fin.ext ?_)
    match a with
    | ⟨0, _⟩ => show 2 + 1 * 0 = 2; omega
    | ⟨1, _⟩ => show 0 + 1 * (i : ℕ) = i; omega
    | ⟨2, _⟩ => show 16 + 1 * (j : ℕ) = 16 * 1 + j; omega
    | ⟨3, _⟩ => show 0 + 1 * (d : ℕ) = d; omega
  | 3, 0 =>
    show shapeCast (α := Elt Ideal .bf16) S4x16x128 (s := S1x4x16x128) (M.view.readCov [⟨Rect.whole S4x4x32x128, q⟩] (Rect.unit (s := S4x4x32x128) ![3, 0, 0, 0] S1x4x16x128.size inb_S4x4x32x128_S1x4x16x128_3_0_0_0).toLoadRect) shapeCasts_S1x4x16x128_S4x16x128 (ix3 i j d) = _
    rw [cast_q, readCov_whole]
    refine congrArg q (funext fun a => Fin.ext ?_)
    match a with
    | ⟨0, _⟩ => show 3 + 1 * 0 = 3; omega
    | ⟨1, _⟩ => show 0 + 1 * (i : ℕ) = i; omega
    | ⟨2, _⟩ => show 0 + 1 * (j : ℕ) = 16 * 0 + j; omega
    | ⟨3, _⟩ => show 0 + 1 * (d : ℕ) = d; omega
  | 3, 1 =>
    show shapeCast (α := Elt Ideal .bf16) S4x16x128 (s := S1x4x16x128) (M.view.readCov [⟨Rect.whole S4x4x32x128, q⟩] (Rect.unit (s := S4x4x32x128) ![3, 0, 16, 0] S1x4x16x128.size inb_S4x4x32x128_S1x4x16x128_3_0_16_0).toLoadRect) shapeCasts_S1x4x16x128_S4x16x128 (ix3 i j d) = _
    rw [cast_q, readCov_whole]
    refine congrArg q (funext fun a => Fin.ext ?_)
    match a with
    | ⟨0, _⟩ => show 3 + 1 * 0 = 3; omega
    | ⟨1, _⟩ => show 0 + 1 * (i : ℕ) = i; omega
    | ⟨2, _⟩ => show 16 + 1 * (j : ℕ) = 16 * 1 + j; omega
    | ⟨3, _⟩ => show 0 + 1 * (d : ℕ) = d; omega

theorem newRow_eq (M : Memref sig .tc .vmem S4x4x4x128 .bf16) (x : S4x4x4x128.Idx → Elt Ideal .bf16) (b s h : Fin 4) (d : Fin 128) :
    newRow (F := Ideal) M x b (ix3 s h d) = x (ix4 b s h d) := by
  match b with
  | 0 =>
    show shapeCast (α := Elt Ideal .bf16) S4x4x128 (s := S1x4x4x128) (M.view.readCov [⟨Rect.whole S4x4x4x128, x⟩] (Rect.unit (s := S4x4x4x128) ![0, 0, 0, 0] S1x4x4x128.size inb_S4x4x4x128_S1x4x4x128_0_0_0_0).toLoadRect) shapeCasts_S1x4x4x128_S4x4x128 (ix3 s h d) = _
    rw [cast_new, readCov_whole]
    refine congrArg x (funext fun a => Fin.ext ?_)
    match a with
    | ⟨0, _⟩ => show 0 + 1 * 0 = 0; omega
    | ⟨1, _⟩ => show 0 + 1 * (s : ℕ) = s; omega
    | ⟨2, _⟩ => show 0 + 1 * (h : ℕ) = h; omega
    | ⟨3, _⟩ => show 0 + 1 * (d : ℕ) = d; omega
  | 1 =>
    show shapeCast (α := Elt Ideal .bf16) S4x4x128 (s := S1x4x4x128) (M.view.readCov [⟨Rect.whole S4x4x4x128, x⟩] (Rect.unit (s := S4x4x4x128) ![1, 0, 0, 0] S1x4x4x128.size inb_S4x4x4x128_S1x4x4x128_1_0_0_0).toLoadRect) shapeCasts_S1x4x4x128_S4x4x128 (ix3 s h d) = _
    rw [cast_new, readCov_whole]
    refine congrArg x (funext fun a => Fin.ext ?_)
    match a with
    | ⟨0, _⟩ => show 1 + 1 * 0 = 1; omega
    | ⟨1, _⟩ => show 0 + 1 * (s : ℕ) = s; omega
    | ⟨2, _⟩ => show 0 + 1 * (h : ℕ) = h; omega
    | ⟨3, _⟩ => show 0 + 1 * (d : ℕ) = d; omega
  | 2 =>
    show shapeCast (α := Elt Ideal .bf16) S4x4x128 (s := S1x4x4x128) (M.view.readCov [⟨Rect.whole S4x4x4x128, x⟩] (Rect.unit (s := S4x4x4x128) ![2, 0, 0, 0] S1x4x4x128.size inb_S4x4x4x128_S1x4x4x128_2_0_0_0).toLoadRect) shapeCasts_S1x4x4x128_S4x4x128 (ix3 s h d) = _
    rw [cast_new, readCov_whole]
    refine congrArg x (funext fun a => Fin.ext ?_)
    match a with
    | ⟨0, _⟩ => show 2 + 1 * 0 = 2; omega
    | ⟨1, _⟩ => show 0 + 1 * (s : ℕ) = s; omega
    | ⟨2, _⟩ => show 0 + 1 * (h : ℕ) = h; omega
    | ⟨3, _⟩ => show 0 + 1 * (d : ℕ) = d; omega
  | 3 =>
    show shapeCast (α := Elt Ideal .bf16) S4x4x128 (s := S1x4x4x128) (M.view.readCov [⟨Rect.whole S4x4x4x128, x⟩] (Rect.unit (s := S4x4x4x128) ![3, 0, 0, 0] S1x4x4x128.size inb_S4x4x4x128_S1x4x4x128_3_0_0_0).toLoadRect) shapeCasts_S1x4x4x128_S4x4x128 (ix3 s h d) = _
    rw [cast_new, readCov_whole]
    refine congrArg x (funext fun a => Fin.ext ?_)
    match a with
    | ⟨0, _⟩ => show 3 + 1 * 0 = 3; omega
    | ⟨1, _⟩ => show 0 + 1 * (s : ℕ) = s; omega
    | ⟨2, _⟩ => show 0 + 1 * (h : ℕ) = h; omega
    | ⟨3, _⟩ => show 0 + 1 * (d : ℕ) = d; omega

/-! ## The stores -/

/-- The four rows' stores leave the rows' codes. -/
theorem canon_codes (n : Fin 4 → FVec Ideal S4x4x128 .fp8e4m3) (y : S4x4x4x128.Idx) :
    View.canon (codePieces (F := Ideal) n) y = n (y 0) (ix3 (y 1) (y 2) (y 3)) := by
  refine View.canon_apply_of_pieces (fun y : S4x4x4x128.Idx => n (y 0) (ix3 (y 1) (y 2) (y 3))) _ ?_ y (View.cover_of_tiledL (codePieces n) S1x4x4x128.size (by sl_kernel_rfl) y)
  intro pc hpc
  simp only [codePieces, List.mem_cons, List.not_mem_nil, or_false] at hpc
  rcases hpc with rfl | rfl | rfl | rfl
  · intro x
    idx_vars x
    refine (cast_back _ _ x0 x1 x2 x3).trans ?_
    show n 3 (ix3 x1 x2 x3) = n ⟨3 + 1 * (x0 : ℕ), _⟩ (ix3 ⟨0 + 1 * (x1 : ℕ), _⟩ ⟨0 + 1 * (x2 : ℕ), _⟩ ⟨0 + 1 * (x3 : ℕ), _⟩)
    exact congrArg₂ n (Fin.ext (by simp only; omega)) ((ix3_inj ..).2 ⟨Fin.ext (by simp only; omega), Fin.ext (by simp only; omega), Fin.ext (by simp only; omega)⟩)
  · intro x
    idx_vars x
    refine (cast_back _ _ x0 x1 x2 x3).trans ?_
    show n 2 (ix3 x1 x2 x3) = n ⟨2 + 1 * (x0 : ℕ), _⟩ (ix3 ⟨0 + 1 * (x1 : ℕ), _⟩ ⟨0 + 1 * (x2 : ℕ), _⟩ ⟨0 + 1 * (x3 : ℕ), _⟩)
    exact congrArg₂ n (Fin.ext (by simp only; omega)) ((ix3_inj ..).2 ⟨Fin.ext (by simp only; omega), Fin.ext (by simp only; omega), Fin.ext (by simp only; omega)⟩)
  · intro x
    idx_vars x
    refine (cast_back _ _ x0 x1 x2 x3).trans ?_
    show n 1 (ix3 x1 x2 x3) = n ⟨1 + 1 * (x0 : ℕ), _⟩ (ix3 ⟨0 + 1 * (x1 : ℕ), _⟩ ⟨0 + 1 * (x2 : ℕ), _⟩ ⟨0 + 1 * (x3 : ℕ), _⟩)
    exact congrArg₂ n (Fin.ext (by simp only; omega)) ((ix3_inj ..).2 ⟨Fin.ext (by simp only; omega), Fin.ext (by simp only; omega), Fin.ext (by simp only; omega)⟩)
  · intro x
    idx_vars x
    refine (cast_back _ _ x0 x1 x2 x3).trans ?_
    show n 0 (ix3 x1 x2 x3) = n ⟨0 + 1 * (x0 : ℕ), _⟩ (ix3 ⟨0 + 1 * (x1 : ℕ), _⟩ ⟨0 + 1 * (x2 : ℕ), _⟩ ⟨0 + 1 * (x3 : ℕ), _⟩)
    exact congrArg₂ n (Fin.ext (by simp only; omega)) ((ix3_inj ..).2 ⟨Fin.ext (by simp only; omega), Fin.ext (by simp only; omega), Fin.ext (by simp only; omega)⟩)

theorem codeRow_eq (M : Memref sig .tc .vmem S4x4x4x128 .fp8e4m3) (n : Fin 4 → FVec Ideal S4x4x128 .fp8e4m3) (b s h : Fin 4) (d : Fin 128) :
    codeRow (F := Ideal) M n b (ix3 s h d) = n b (ix3 s h d) := by
  match b with
  | 0 =>
    show shapeCast (α := Elt Ideal .fp8e4m3) S4x4x128 (s := S1x4x4x128) (M.view.readCov (codePieces n) (Rect.unit (s := S4x4x4x128) ![0, 0, 0, 0] S1x4x4x128.size inb_S4x4x4x128_S1x4x4x128_0_0_0_0).toLoadRect) shapeCasts_S1x4x4x128_S4x4x128 (ix3 s h d) = _
    rw [cast_new, View.readCov_eq_canon']
    refine (canon_codes n _).trans ?_
    exact congrArg₂ n (Fin.ext (show 0 + 1 * 0 = 0 by omega)) ((ix3_inj ..).2 ⟨Fin.ext (show 0 + 1 * (s : ℕ) = s by omega), Fin.ext (show 0 + 1 * (h : ℕ) = h by omega), Fin.ext (show 0 + 1 * (d : ℕ) = d by omega)⟩)
  | 1 =>
    show shapeCast (α := Elt Ideal .fp8e4m3) S4x4x128 (s := S1x4x4x128) (M.view.readCov (codePieces n) (Rect.unit (s := S4x4x4x128) ![1, 0, 0, 0] S1x4x4x128.size inb_S4x4x4x128_S1x4x4x128_1_0_0_0).toLoadRect) shapeCasts_S1x4x4x128_S4x4x128 (ix3 s h d) = _
    rw [cast_new, View.readCov_eq_canon']
    refine (canon_codes n _).trans ?_
    exact congrArg₂ n (Fin.ext (show 1 + 1 * 0 = 1 by omega)) ((ix3_inj ..).2 ⟨Fin.ext (show 0 + 1 * (s : ℕ) = s by omega), Fin.ext (show 0 + 1 * (h : ℕ) = h by omega), Fin.ext (show 0 + 1 * (d : ℕ) = d by omega)⟩)
  | 2 =>
    show shapeCast (α := Elt Ideal .fp8e4m3) S4x4x128 (s := S1x4x4x128) (M.view.readCov (codePieces n) (Rect.unit (s := S4x4x4x128) ![2, 0, 0, 0] S1x4x4x128.size inb_S4x4x4x128_S1x4x4x128_2_0_0_0).toLoadRect) shapeCasts_S1x4x4x128_S4x4x128 (ix3 s h d) = _
    rw [cast_new, View.readCov_eq_canon']
    refine (canon_codes n _).trans ?_
    exact congrArg₂ n (Fin.ext (show 2 + 1 * 0 = 2 by omega)) ((ix3_inj ..).2 ⟨Fin.ext (show 0 + 1 * (s : ℕ) = s by omega), Fin.ext (show 0 + 1 * (h : ℕ) = h by omega), Fin.ext (show 0 + 1 * (d : ℕ) = d by omega)⟩)
  | 3 =>
    show shapeCast (α := Elt Ideal .fp8e4m3) S4x4x128 (s := S1x4x4x128) (M.view.readCov (codePieces n) (Rect.unit (s := S4x4x4x128) ![3, 0, 0, 0] S1x4x4x128.size inb_S4x4x4x128_S1x4x4x128_3_0_0_0).toLoadRect) shapeCasts_S1x4x4x128_S4x4x128 (ix3 s h d) = _
    rw [cast_new, View.readCov_eq_canon']
    refine (canon_codes n _).trans ?_
    exact congrArg₂ n (Fin.ext (show 3 + 1 * 0 = 3 by omega)) ((ix3_inj ..).2 ⟨Fin.ext (show 0 + 1 * (s : ℕ) = s by omega), Fin.ext (show 0 + 1 * (h : ℕ) = h by omega), Fin.ext (show 0 + 1 * (d : ℕ) = d by omega)⟩)

/-- The four scales' stores leave the scales. -/
theorem canon_scales (e : Fin 4 → BitVec 32) (he : ∀ h, InExp (e h)) (y : S4.Idx) : View.canon (scalePieces (F := Ideal) e) y = ((two (e (y 0)) : ℝ) : EReal) := by
  refine View.canon_apply_of_pieces (Val := Elt Ideal) (e := .f32) (fun y : S4.Idx => ((two (e (y 0)) : ℝ) : EReal)) _ ?_ y (View.cover_of_tiledL (scalePieces e) S1.size (by sl_kernel_rfl) y)
  intro pc hpc
  simp only [scalePieces, List.mem_cons, List.not_mem_nil, or_false] at hpc
  rcases hpc with rfl | rfl | rfl | rfl
  · intro x
    idx_vars x
    refine (pow2_eq _ (he 3)).trans ?_
    show ((two (e 3) : ℝ) : EReal) = ((two (e ⟨3 + 1 * (x0 : ℕ), _⟩) : ℝ) : EReal)
    exact congrArg (fun k => ((two (e k) : ℝ) : EReal)) (Fin.ext (by simp only; omega))
  · intro x
    idx_vars x
    refine (pow2_eq _ (he 2)).trans ?_
    show ((two (e 2) : ℝ) : EReal) = ((two (e ⟨2 + 1 * (x0 : ℕ), _⟩) : ℝ) : EReal)
    exact congrArg (fun k => ((two (e k) : ℝ) : EReal)) (Fin.ext (by simp only; omega))
  · intro x
    idx_vars x
    refine (pow2_eq _ (he 1)).trans ?_
    show ((two (e 1) : ℝ) : EReal) = ((two (e ⟨1 + 1 * (x0 : ℕ), _⟩) : ℝ) : EReal)
    exact congrArg (fun k => ((two (e k) : ℝ) : EReal)) (Fin.ext (by simp only; omega))
  · intro x
    idx_vars x
    refine (pow2_eq _ (he 0)).trans ?_
    show ((two (e 0) : ℝ) : EReal) = ((two (e ⟨0 + 1 * (x0 : ℕ), _⟩) : ℝ) : EReal)
    exact congrArg (fun k => ((two (e k) : ℝ) : EReal)) (Fin.ext (by simp only; omega))

/-- A BLOCK IS THE ATTENTION: pair `p` of row `b`, at step `s`, row `j` of the pair's sixteen. -/
theorem blk_att (L ke ve : Fin 4 → BitVec 32) (hk : ∀ h, InExp (ke h)) (hv : ∀ h, InExp (ve h)) (q : Fin 4 → Fin 4 → Fin 32 → Fin 128 → EReal) (kn vn : Fin 4 → Fin 4 → Fin 4 → Fin 128 → EReal)
    (K V : Fin 4 → Fin 131072 → Fin 4 → Fin 128 → EReal) (b : Fin 4) (p : ℕ) (hp : p < 2) (h h' : Fin 4) (eh : (h : ℕ) = 2 * p) (eh' : (h' : ℕ) = 2 * p + 1)
    (Q : FVec Ideal S4x16x128 .bf16) (KW VW : FVec Ideal S1024x4x128 .fp8e4m3) (KN VN : FVec Ideal S4x4x128 .fp8e4m3)
    (hQ : ∀ i (j : Fin 16) d, Q (ix3 i j d) = q b i ⟨16 * p + j, by omega⟩ d)
    (hKW : ∀ t h d, KW (ix3 t h d) = K b (place (L b) t) h d) (hVW : ∀ t h d, VW (ix3 t h d) = V b (place (L b) t) h d)
    (hKN : ∀ u h d, KN (ix3 u h d) = code (ke h) (kn b u h d)) (hVN : ∀ u h d, VN (ix3 u h d) = code (ve h) (vn b u h d))
    (s : Fin 4) (j : Fin 16) (d : Fin 128) :
    blk (F := Ideal) h h' Q KW VW KN VN (cExp (ke h)) (cExp (ke h')) (pow2 (ve h)) (pow2 (ve h')) (ix4 0 s j d)
      = att L ke ve q kn vn K V b s ⟨16 * p + j, by omega⟩ d := by
  by_cases hj : (j : ℕ) < 8
  · have e1 : head ⟨16 * p + j, by omega⟩ = h := Fin.ext (by simp only [head]; omega)
    refine (blk_lo h h' Q KW VW KN VN _ _ _ _ s ⟨j, hj⟩ d).trans ?_
    rw [cExp_eq _ (hk h), pow2_eq _ (hv h), kerOut_eq_refOut _ _ _ _ _ (mul_pos (two_pos _) sm_pos) (two_pos _)]
    unfold att
    simp only [e1, hQ, hKW, hVW, hKN, hVN]
  · have e1 : head ⟨16 * p + j, by omega⟩ = h' := Fin.ext (by simp only [head]; omega)
    have e2 : j = ⟨8 + ((⟨(j : ℕ) - 8, by omega⟩ : Fin 8) : ℕ), by simp only; omega⟩ := Fin.ext (by simp only; omega)
    refine (congrArg _ ((ix4_inj ..).2 ⟨rfl, rfl, e2, rfl⟩)).trans ((blk_hi h h' Q KW VW KN VN _ _ _ _ s ⟨(j : ℕ) - 8, by omega⟩ d).trans ?_)
    rw [cExp_eq _ (hk h'), pow2_eq _ (hv h'), kerOut_eq_refOut _ _ _ _ _ (mul_pos (two_pos _) sm_pos) (two_pos _)]
    unfold att
    have e3 : 16 * p + (8 + ((j : ℕ) - 8)) = 16 * p + j := by omega
    simp only [e1, hQ, hKW, hVW, hKN, hVN, e3]

/-- The eight blocks' stores leave the attention. -/
theorem canon_out (L ke ve : Fin 4 → BitVec 32) (hk : ∀ h, InExp (ke h)) (hv : ∀ h, InExp (ve h)) (q : Fin 4 → Fin 4 → Fin 32 → Fin 128 → EReal) (kn vn : Fin 4 → Fin 4 → Fin 4 → Fin 128 → EReal)
    (K V : Fin 4 → Fin 131072 → Fin 4 → Fin 128 → EReal) (Q : Fin 4 → Fin 2 → FVec Ideal S4x16x128 .bf16) (KW VW : Fin 4 → FVec Ideal S1024x4x128 .fp8e4m3) (KN VN : Fin 4 → FVec Ideal S4x4x128 .fp8e4m3)
    (hQ : ∀ b (p : Fin 2) i (j : Fin 16) d, Q b p (ix3 i j d) = q b i ⟨16 * (p : ℕ) + j, by omega⟩ d)
    (hKW : ∀ b t h d, KW b (ix3 t h d) = K b (place (L b) t) h d) (hVW : ∀ b t h d, VW b (ix3 t h d) = V b (place (L b) t) h d)
    (hKN : ∀ b u h d, KN b (ix3 u h d) = code (ke h) (kn b u h d)) (hVN : ∀ b u h d, VN b (ix3 u h d) = code (ve h) (vn b u h d)) (y : S4x4x32x128.Idx) :
    View.canon (outPieces (F := Ideal) Q KW VW KN VN ke ve) y = att L ke ve q kn vn K V (y 0) (y 1) (y 2) (y 3) := by
  refine View.canon_apply_of_pieces (fun y : S4x4x32x128.Idx => att L ke ve q kn vn K V (y 0) (y 1) (y 2) (y 3)) _ ?_ y
    (View.cover_of_tiledL (outPieces Q KW VW KN VN ke ve) S1x4x16x128.size (by sl_kernel_rfl) y)
  intro pc hpc
  simp only [outPieces, List.mem_cons, List.not_mem_nil, or_false] at hpc
  rcases hpc with rfl | rfl | rfl | rfl | rfl | rfl | rfl | rfl
  · intro x
    idx_vars x
    obtain rfl : x0 = 0 := Subsingleton.elim _ _
    refine (blk_att L ke ve hk hv q kn vn K V 3 1 (by omega) 2 3 rfl rfl (Q 3 1) (KW 3) (VW 3) (KN 3) (VN 3) (hQ 3 1) (hKW 3) (hVW 3) (hKN 3) (hVN 3) x1 x2 x3).trans ?_
    show att L ke ve q kn vn K V 3 x1 ⟨16 * 1 + (x2 : ℕ), _⟩ x3 = att L ke ve q kn vn K V ⟨3 + 1 * 0, _⟩ ⟨0 + 1 * (x1 : ℕ), _⟩ ⟨16 + 1 * (x2 : ℕ), _⟩ ⟨0 + 1 * (x3 : ℕ), _⟩
    congr 1 <;> exact Fin.ext (by simp only; omega)
  · intro x
    idx_vars x
    obtain rfl : x0 = 0 := Subsingleton.elim _ _
    refine (blk_att L ke ve hk hv q kn vn K V 3 0 (by omega) 0 1 rfl rfl (Q 3 0) (KW 3) (VW 3) (KN 3) (VN 3) (hQ 3 0) (hKW 3) (hVW 3) (hKN 3) (hVN 3) x1 x2 x3).trans ?_
    show att L ke ve q kn vn K V 3 x1 ⟨16 * 0 + (x2 : ℕ), _⟩ x3 = att L ke ve q kn vn K V ⟨3 + 1 * 0, _⟩ ⟨0 + 1 * (x1 : ℕ), _⟩ ⟨0 + 1 * (x2 : ℕ), _⟩ ⟨0 + 1 * (x3 : ℕ), _⟩
    congr 1 <;> exact Fin.ext (by simp only; omega)
  · intro x
    idx_vars x
    obtain rfl : x0 = 0 := Subsingleton.elim _ _
    refine (blk_att L ke ve hk hv q kn vn K V 2 1 (by omega) 2 3 rfl rfl (Q 2 1) (KW 2) (VW 2) (KN 2) (VN 2) (hQ 2 1) (hKW 2) (hVW 2) (hKN 2) (hVN 2) x1 x2 x3).trans ?_
    show att L ke ve q kn vn K V 2 x1 ⟨16 * 1 + (x2 : ℕ), _⟩ x3 = att L ke ve q kn vn K V ⟨2 + 1 * 0, _⟩ ⟨0 + 1 * (x1 : ℕ), _⟩ ⟨16 + 1 * (x2 : ℕ), _⟩ ⟨0 + 1 * (x3 : ℕ), _⟩
    congr 1 <;> exact Fin.ext (by simp only; omega)
  · intro x
    idx_vars x
    obtain rfl : x0 = 0 := Subsingleton.elim _ _
    refine (blk_att L ke ve hk hv q kn vn K V 2 0 (by omega) 0 1 rfl rfl (Q 2 0) (KW 2) (VW 2) (KN 2) (VN 2) (hQ 2 0) (hKW 2) (hVW 2) (hKN 2) (hVN 2) x1 x2 x3).trans ?_
    show att L ke ve q kn vn K V 2 x1 ⟨16 * 0 + (x2 : ℕ), _⟩ x3 = att L ke ve q kn vn K V ⟨2 + 1 * 0, _⟩ ⟨0 + 1 * (x1 : ℕ), _⟩ ⟨0 + 1 * (x2 : ℕ), _⟩ ⟨0 + 1 * (x3 : ℕ), _⟩
    congr 1 <;> exact Fin.ext (by simp only; omega)
  · intro x
    idx_vars x
    obtain rfl : x0 = 0 := Subsingleton.elim _ _
    refine (blk_att L ke ve hk hv q kn vn K V 1 1 (by omega) 2 3 rfl rfl (Q 1 1) (KW 1) (VW 1) (KN 1) (VN 1) (hQ 1 1) (hKW 1) (hVW 1) (hKN 1) (hVN 1) x1 x2 x3).trans ?_
    show att L ke ve q kn vn K V 1 x1 ⟨16 * 1 + (x2 : ℕ), _⟩ x3 = att L ke ve q kn vn K V ⟨1 + 1 * 0, _⟩ ⟨0 + 1 * (x1 : ℕ), _⟩ ⟨16 + 1 * (x2 : ℕ), _⟩ ⟨0 + 1 * (x3 : ℕ), _⟩
    congr 1 <;> exact Fin.ext (by simp only; omega)
  · intro x
    idx_vars x
    obtain rfl : x0 = 0 := Subsingleton.elim _ _
    refine (blk_att L ke ve hk hv q kn vn K V 1 0 (by omega) 0 1 rfl rfl (Q 1 0) (KW 1) (VW 1) (KN 1) (VN 1) (hQ 1 0) (hKW 1) (hVW 1) (hKN 1) (hVN 1) x1 x2 x3).trans ?_
    show att L ke ve q kn vn K V 1 x1 ⟨16 * 0 + (x2 : ℕ), _⟩ x3 = att L ke ve q kn vn K V ⟨1 + 1 * 0, _⟩ ⟨0 + 1 * (x1 : ℕ), _⟩ ⟨0 + 1 * (x2 : ℕ), _⟩ ⟨0 + 1 * (x3 : ℕ), _⟩
    congr 1 <;> exact Fin.ext (by simp only; omega)
  · intro x
    idx_vars x
    obtain rfl : x0 = 0 := Subsingleton.elim _ _
    refine (blk_att L ke ve hk hv q kn vn K V 0 1 (by omega) 2 3 rfl rfl (Q 0 1) (KW 0) (VW 0) (KN 0) (VN 0) (hQ 0 1) (hKW 0) (hVW 0) (hKN 0) (hVN 0) x1 x2 x3).trans ?_
    show att L ke ve q kn vn K V 0 x1 ⟨16 * 1 + (x2 : ℕ), _⟩ x3 = att L ke ve q kn vn K V ⟨0 + 1 * 0, _⟩ ⟨0 + 1 * (x1 : ℕ), _⟩ ⟨16 + 1 * (x2 : ℕ), _⟩ ⟨0 + 1 * (x3 : ℕ), _⟩
    congr 1 <;> exact Fin.ext (by simp only; omega)
  · intro x
    idx_vars x
    obtain rfl : x0 = 0 := Subsingleton.elim _ _
    refine (blk_att L ke ve hk hv q kn vn K V 0 0 (by omega) 0 1 rfl rfl (Q 0 0) (KW 0) (VW 0) (KN 0) (VN 0) (hQ 0 0) (hKW 0) (hVW 0) (hKN 0) (hVN 0) x1 x2 x3).trans ?_
    show att L ke ve q kn vn K V 0 x1 ⟨16 * 0 + (x2 : ℕ), _⟩ x3 = att L ke ve q kn vn K V ⟨0 + 1 * 0, _⟩ ⟨0 + 1 * (x1 : ℕ), _⟩ ⟨0 + 1 * (x2 : ℕ), _⟩ ⟨0 + 1 * (x3 : ℕ), _⟩
    congr 1 <;> exact Fin.ext (by simp only; omega)

/-! ## The arrays -/

variable (m : (ℓ : Loc nD τ sig) → Buf (Elt Ideal) ℓ) (ρ : Dev nD → PrngReg)

/-- Window 0's one block is its whole array. -/
theorem zero0 : ∀ t : Fin cfg0.N, win0_0.index t (0 : Fin 1) = 0 :=
  (by decide +kernel : ∀ t : Fin grid0.N, _)

theorem emb0 (t : Fin cfg0.N) (j : S4.Idx) : ((cfg0.win 0).blk t).view.emb j = j := by
  have e0 := zero0 t
  funext a; apply Fin.ext
  match a with
  | ⟨0, _⟩ => show win0_0.index t (0 : Fin 1) * 4 + 1 * (j 0).val = (j 0).val; omega

/-- Window 1's one block is its whole array. -/
theorem zero1 : ∀ t : Fin cfg0.N, win0_1.index t (0 : Fin 1) = 0 :=
  (by decide +kernel : ∀ t : Fin grid0.N, _)

theorem emb1 (t : Fin cfg0.N) (j : S4.Idx) : ((cfg0.win 1).blk t).view.emb j = j := by
  have e0 := zero1 t
  funext a; apply Fin.ext
  match a with
  | ⟨0, _⟩ => show win0_1.index t (0 : Fin 1) * 4 + 1 * (j 0).val = (j 0).val; omega

/-- Window 2's one block is its whole array. -/
theorem zero2 : ∀ t : Fin cfg0.N, win0_2.index t (0 : Fin 1) = 0 :=
  (by decide +kernel : ∀ t : Fin grid0.N, _)

theorem emb2 (t : Fin cfg0.N) (j : S4.Idx) : ((cfg0.win 2).blk t).view.emb j = j := by
  have e0 := zero2 t
  funext a; apply Fin.ext
  match a with
  | ⟨0, _⟩ => show win0_2.index t (0 : Fin 1) * 4 + 1 * (j 0).val = (j 0).val; omega

/-- Window 3's one block is its whole array. -/
theorem zero3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

theorem emb3 (t : Fin cfg0.N) (j : S4x4x32x128.Idx) : ((cfg0.win 3).blk t).view.emb j = j := by
  obtain ⟨e0, e1, e2, e3⟩ := zero3 t
  funext a; apply Fin.ext
  match a with
  | ⟨0, _⟩ => show win0_3.index t (0 : Fin 4) * 4 + 1 * (j 0).val = (j 0).val; omega
  | ⟨1, _⟩ => show win0_3.index t (1 : Fin 4) * 4 + 1 * (j 1).val = (j 1).val; omega
  | ⟨2, _⟩ => show win0_3.index t (2 : Fin 4) * 32 + 1 * (j 2).val = (j 2).val; omega
  | ⟨3, _⟩ => show win0_3.index t (3 : Fin 4) * 128 + 1 * (j 3).val = (j 3).val; omega

/-- Window 4's one block is its whole array. -/
theorem zero4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

theorem emb4 (t : Fin cfg0.N) (j : S4x4x4x128.Idx) : ((cfg0.win 4).blk t).view.emb j = j := by
  obtain ⟨e0, e1, e2, e3⟩ := zero4 t
  funext a; apply Fin.ext
  match a with
  | ⟨0, _⟩ => show win0_4.index t (0 : Fin 4) * 4 + 1 * (j 0).val = (j 0).val; omega
  | ⟨1, _⟩ => show win0_4.index t (1 : Fin 4) * 4 + 1 * (j 1).val = (j 1).val; omega
  | ⟨2, _⟩ => show win0_4.index t (2 : Fin 4) * 4 + 1 * (j 2).val = (j 2).val; omega
  | ⟨3, _⟩ => show win0_4.index t (3 : Fin 4) * 128 + 1 * (j 3).val = (j 3).val; omega

/-- Window 5's one block is its whole array. -/
theorem zero5 : ∀ t : Fin cfg0.N, win0_5.index t (0 : Fin 1) = 0 :=
  (by decide +kernel : ∀ t : Fin grid0.N, _)

theorem emb5 (t : Fin cfg0.N) (j : S4.Idx) : ((cfg0.win 5).blk t).view.emb j = j := by
  have e0 := zero5 t
  funext a; apply Fin.ext
  match a with
  | ⟨0, _⟩ => show win0_5.index t (0 : Fin 1) * 4 + 1 * (j 0).val = (j 0).val; omega

/-- Window 6's one block is its whole array. -/
theorem zero6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

theorem emb6 (t : Fin cfg0.N) (j : S4x4x4x128.Idx) : ((cfg0.win 6).blk t).view.emb j = j := by
  obtain ⟨e0, e1, e2, e3⟩ := zero6 t
  funext a; apply Fin.ext
  match a with
  | ⟨0, _⟩ => show win0_6.index t (0 : Fin 4) * 4 + 1 * (j 0).val = (j 0).val; omega
  | ⟨1, _⟩ => show win0_6.index t (1 : Fin 4) * 4 + 1 * (j 1).val = (j 1).val; omega
  | ⟨2, _⟩ => show win0_6.index t (2 : Fin 4) * 4 + 1 * (j 2).val = (j 2).val; omega
  | ⟨3, _⟩ => show win0_6.index t (3 : Fin 4) * 128 + 1 * (j 3).val = (j 3).val; omega

/-- Window 7's one block is its whole array. -/
theorem zero7 : ∀ t : Fin cfg0.N, win0_7.index t (0 : Fin 1) = 0 :=
  (by decide +kernel : ∀ t : Fin grid0.N, _)

theorem emb7 (t : Fin cfg0.N) (j : S4.Idx) : ((cfg0.win 7).blk t).view.emb j = j := by
  have e0 := zero7 t
  funext a; apply Fin.ext
  match a with
  | ⟨0, _⟩ => show win0_7.index t (0 : Fin 1) * 4 + 1 * (j 0).val = (j 0).val; omega

theorem iblk0_eq (c : Dev nD) (t : Fin cfg0.N) : iblk m c 0 t = m ((c : Thread nD τ).loc main_arg5) := by
  funext j; show V m c main_arg5 (((cfg0.win 0).blk t).view.emb j) = V m c main_arg5 j; rw [emb0]

theorem iblk1_eq (c : Dev nD) (t : Fin cfg0.N) : iblk m c 1 t = m ((c : Thread nD τ).loc main_arg6) := by
  funext j; show V m c main_arg6 (((cfg0.win 1).blk t).view.emb j) = V m c main_arg6 j; rw [emb1]

theorem iblk2_eq (c : Dev nD) (t : Fin cfg0.N) : iblk m c 2 t = m ((c : Thread nD τ).loc main_arg7) := by
  funext j; show V m c main_arg7 (((cfg0.win 2).blk t).view.emb j) = V m c main_arg7 j; rw [emb2]

theorem cut3_eq (t : Fin cfg0.N) (X : Vec Ideal S4x4x32x128 .bf16) : (cfg0.win 3).cut (grid0.coords t) X = ((cfg0.win 3).blk t).view.read (Elt Ideal) X := by
  funext j
  show X j = X (((cfg0.win 3).blk t).view.emb j)
  rw [emb3]

theorem covered3 (i : S4x4x32x128.Idx) : ∃ t : Fin cfg0.N, (cfg0.win 3).flush t = true ∧ i ∈ ((cfg0.win 3).blk t).view.set :=
  ⟨(⟨0, by decide⟩ : Fin cfg0.N), flush0_3 _, by
    have h := ((cfg0.win 3).blk (⟨0, by decide⟩ : Fin cfg0.N)).view.emb_mem_set i; rwa [emb3] at h⟩

theorem cut4_eq (t : Fin cfg0.N) (X : Vec Ideal S4x4x4x128 .fp8e4m3) : (cfg0.win 4).cut (grid0.coords t) X = ((cfg0.win 4).blk t).view.read (Elt Ideal) X := by
  funext j
  show X j = X (((cfg0.win 4).blk t).view.emb j)
  rw [emb4]

theorem covered4 (i : S4x4x4x128.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

theorem cut5_eq (t : Fin cfg0.N) (X : Vec Ideal S4 .f32) : (cfg0.win 5).cut (grid0.coords t) X = ((cfg0.win 5).blk t).view.read (Elt Ideal) X := by
  funext j
  show X j = X (((cfg0.win 5).blk t).view.emb j)
  rw [emb5]

theorem covered5 (i : S4.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

theorem cut6_eq (t : Fin cfg0.N) (X : Vec Ideal S4x4x4x128 .fp8e4m3) : (cfg0.win 6).cut (grid0.coords t) X = ((cfg0.win 6).blk t).view.read (Elt Ideal) X := by
  funext j
  show X j = X (((cfg0.win 6).blk t).view.emb j)
  rw [emb6]

theorem covered6 (i : S4x4x4x128.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

theorem cut7_eq (t : Fin cfg0.N) (X : Vec Ideal S4 .f32) : (cfg0.win 7).cut (grid0.coords t) X = ((cfg0.win 7).blk t).view.read (Elt Ideal) X := by
  funext j
  show X j = X (((cfg0.win 7).blk t).view.emb j)
  rw [emb7]

theorem covered7 (i : S4.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

/-- What the body leaves in window 3's buffer, as what its stores leave. -/
theorem outs3 (c : Dev nD) (t : Fin cfg0.N) : (outsAt0 m c t).1 = View.canon (P3 m c t) := by
  dsimp only [outsAt0]
  exact View.read_writes_junk_eq_canon (Val := Elt Ideal) VO0_3 (P3 m c t)

/-- What the body leaves in window 4's buffer, as what its stores leave. -/
theorem outs4 (c : Dev nD) (t : Fin cfg0.N) : (outsAt0 m c t).2.1 = View.canon (P4 m c t) := by
  dsimp only [outsAt0]
  exact View.read_writes_junk_eq_canon (Val := Elt Ideal) VO0_4 (P4 m c t)

/-- What the body leaves in window 5's buffer, as what its stores leave. -/
theorem outs5 (c : Dev nD) (t : Fin cfg0.N) : (outsAt0 m c t).2.2.1 = View.canon (P5 m c t) := by
  dsimp only [outsAt0]
  exact View.read_writes_junk_eq_canon (Val := Elt Ideal) VO0_5 (P5 m c t)

/-- What the body leaves in window 6's buffer, as what its stores leave. -/
theorem outs6 (c : Dev nD) (t : Fin cfg0.N) : (outsAt0 m c t).2.2.2.1 = View.canon (P6 m c t) := by
  dsimp only [outsAt0]
  exact View.read_writes_junk_eq_canon (Val := Elt Ideal) VO0_6 (P6 m c t)

/-- What the body leaves in window 7's buffer, as what its stores leave. -/
theorem outs7 (c : Dev nD) (t : Fin cfg0.N) : (outsAt0 m c t).2.2.2.2 = View.canon (P7 m c t) := by
  dsimp only [outsAt0]
  exact View.read_writes_junk_eq_canon (Val := Elt Ideal) VO0_7 (P7 m c t)

theorem words0 (c : Dev nD) (t : Fin cfg0.N) (b : Fin 4) : words (F := Ideal) (ms0_0 t) (hs0_0 t) (iblk m c 0 t) b = m ((c : Thread nD τ).loc main_arg5) (ix1 b) := by
  rw [words_eq, iblk0_eq]

theorem words1 (c : Dev nD) (t : Fin cfg0.N) : words (F := Ideal) (ms0_1 t) (hs0_1 t) (iblk m c 1 t) = fun h => m ((c : Thread nD τ).loc main_arg6) (ix1 h) := by
  funext h; rw [words_eq, iblk1_eq]

theorem words2 (c : Dev nD) (t : Fin cfg0.N) : words (F := Ideal) (ms0_2 t) (hs0_2 t) (iblk m c 2 t) = fun h => m ((c : Thread nD τ).loc main_arg7) (ix1 h) := by
  funext h; rw [words_eq, iblk2_eq]

/-- The key codes of row `b`. -/
theorem kCode (c : Dev nD) (t : Fin cfg0.N) (hk : ∀ h : Fin 4, InExp (m ((c : Thread nD τ).loc main_arg6) (ix1 h))) (b s h : Fin 4) (d : Fin 128) :
    quant (F := Ideal) (words (ms0_1 t) (hs0_1 t) (iblk m c 1 t)) (newRow scM0_3 (View.read (Elt Ideal) (Memref.whole main_arg1).view (V m c main_arg1)) b) (ix3 s h d)
      = code (m ((c : Thread nD τ).loc main_arg6) (ix1 h)) (m ((c : Thread nD τ).loc main_arg1) (ix4 b s h d)) := by
  rw [words1, quant_apply _ hk, newRow_eq]
  rfl

/-- The value codes of row `b`. -/
theorem vCode (c : Dev nD) (t : Fin cfg0.N) (hv : ∀ h : Fin 4, InExp (m ((c : Thread nD τ).loc main_arg7) (ix1 h))) (b s h : Fin 4) (d : Fin 128) :
    quant (F := Ideal) (words (ms0_2 t) (hs0_2 t) (iblk m c 2 t)) (newRow scM0_4 (View.read (Elt Ideal) (Memref.whole main_arg2).view (V m c main_arg2)) b) (ix3 s h d)
      = code (m ((c : Thread nD τ).loc main_arg7) (ix1 h)) (m ((c : Thread nD τ).loc main_arg2) (ix4 b s h d)) := by
  rw [words2, quant_apply _ hv, newRow_eq]
  rfl

/-- The attention of core `c`'s argument arrays. -/
def attOf (c : Dev nD) : Vec Ideal S4x4x32x128 .bf16 := fun y =>
  att (fun b => m ((c : Thread nD τ).loc main_arg5) (ix1 b)) (fun h => m ((c : Thread nD τ).loc main_arg6) (ix1 h)) (fun h => m ((c : Thread nD τ).loc main_arg7) (ix1 h))
    (fun b s r d => m ((c : Thread nD τ).loc main_arg0) (ix4 b s r d)) (fun b s h d => m ((c : Thread nD τ).loc main_arg1) (ix4 b s h d)) (fun b s h d => m ((c : Thread nD τ).loc main_arg2) (ix4 b s h d))
    (fun b t h d => m ((c : Thread nD τ).loc main_arg3) (ix4 b t h d)) (fun b t h d => m ((c : Thread nD τ).loc main_arg4) (ix4 b t h d)) (y 0) (y 1) (y 2) (y 3)

/-- The codes of core `c`'s new keys. -/
def kCodes (c : Dev nD) : Vec Ideal S4x4x4x128 .fp8e4m3 := fun y => code (m ((c : Thread nD τ).loc main_arg6) (ix1 (y 2))) (m ((c : Thread nD τ).loc main_arg1) (ix4 (y 0) (y 1) (y 2) (y 3)))

/-- The codes of core `c`'s new values. -/
def vCodes (c : Dev nD) : Vec Ideal S4x4x4x128 .fp8e4m3 := fun y => code (m ((c : Thread nD τ).loc main_arg7) (ix1 (y 2))) (m ((c : Thread nD τ).loc main_arg2) (ix4 (y 0) (y 1) (y 2) (y 3)))

/-- The scales of core `c`'s keys. -/
def kScales (c : Dev nD) : Vec Ideal S4 .f32 := fun y => ((two (m ((c : Thread nD τ).loc main_arg6) (ix1 (y 0))) : ℝ) : EReal)

/-- The scales of core `c`'s values. -/
def vScales (c : Dev nD) : Vec Ideal S4 .f32 := fun y => ((two (m ((c : Thread nD τ).loc main_arg7) (ix1 (y 0))) : ℝ) : EReal)

/-- The attention's stores leave the attention. -/
theorem canon3 (c : Dev nD) (t : Fin cfg0.N) (hk : ∀ h : Fin 4, InExp (m ((c : Thread nD τ).loc main_arg6) (ix1 h))) (hv : ∀ h : Fin 4, InExp (m ((c : Thread nD τ).loc main_arg7) (ix1 h))) :
    View.canon (P3 m c t) = attOf m c := by
  funext y
  unfold P3
  have e0 : words (F := Ideal) (ms0_0 t) (hs0_0 t) (iblk m c 0 t) = fun b => m ((c : Thread nD τ).loc main_arg5) (ix1 b) := funext fun b => words0 m c t b
  have hK := kCode m c t hk
  have hV := vCode m c t hv
  rw [words1] at hK ⊢
  rw [words2] at hV ⊢
  rw [e0]
  exact canon_out _ _ _ hk hv (fun b s r d => m ((c : Thread nD τ).loc main_arg0) (ix4 b s r d)) (fun b s h d => m ((c : Thread nD τ).loc main_arg1) (ix4 b s h d)) (fun b s h d => m ((c : Thread nD τ).loc main_arg2) (ix4 b s h d))
    (fun b t h d => m ((c : Thread nD τ).loc main_arg3) (ix4 b t h d)) (fun b t h d => m ((c : Thread nD τ).loc main_arg4) (ix4 b t h d)) _ _ _ _ _
    (fun b p i j d => qPart_eq _ _ b p i j d) (fun b t' h d => kWin_eq c _ _ b t' h d) (fun b t' h d => vWin_eq c _ _ b t' h d)
    (fun b u h d => (codeRow_eq _ _ b u h d).trans (hK b u h d)) (fun b u h d => (codeRow_eq _ _ b u h d).trans (hV b u h d)) y

theorem canon4 (c : Dev nD) (t : Fin cfg0.N) (hk : ∀ h : Fin 4, InExp (m ((c : Thread nD τ).loc main_arg6) (ix1 h))) : View.canon (P4 m c t) = kCodes m c := by
  funext y; exact (canon_codes _ y).trans (kCode m c t hk (y 0) (y 1) (y 2) (y 3))

theorem canon6 (c : Dev nD) (t : Fin cfg0.N) (hv : ∀ h : Fin 4, InExp (m ((c : Thread nD τ).loc main_arg7) (ix1 h))) : View.canon (P6 m c t) = vCodes m c := by
  funext y; exact (canon_codes _ y).trans (vCode m c t hv (y 0) (y 1) (y 2) (y 3))

theorem canon5 (c : Dev nD) (t : Fin cfg0.N) (hk : ∀ h : Fin 4, InExp (m ((c : Thread nD τ).loc main_arg6) (ix1 h))) : View.canon (P5 m c t) = kScales m c := by
  funext y; unfold P5; rw [words1]; exact canon_scales _ hk y

theorem canon7 (c : Dev nD) (t : Fin cfg0.N) (hv : ∀ h : Fin 4, InExp (m ((c : Thread nD τ).loc main_arg7) (ix1 h))) : View.canon (P7 m c t) = vScales m c := by
  funext y; unfold P7; rw [words2]; exact canon_scales _ hv y

/-- The kernel's attention array. -/
theorem final3 (c : Dev nD) (hk : ∀ h : Fin 4, InExp (m ((c : Thread nD τ).loc main_arg6) (ix1 h))) (hv : ∀ h : Fin 4, InExp (m ((c : Thread nD τ).loc main_arg7) (ix1 h))) : (dats m 0 c).arrAt 3 cfg0.N = attOf m c :=
  (dats m 0 c).arrAt_eq_of_cover 3 _ (fun t _ => by
    rw [flushed3, outs3, canon3 m c t hk hv]
    exact cut3_eq t _) covered3

/-- The kernel's key codes. -/
theorem final4 (c : Dev nD) (hk : ∀ h : Fin 4, InExp (m ((c : Thread nD τ).loc main_arg6) (ix1 h))) : (dats m 0 c).arrAt 4 cfg0.N = kCodes m c :=
  (dats m 0 c).arrAt_eq_of_cover 4 _ (fun t _ => by
    rw [flushed4, outs4, canon4 m c t hk]
    exact cut4_eq t _) covered4

/-- The kernel's key scales. -/
theorem final5 (c : Dev nD) (hk : ∀ h : Fin 4, InExp (m ((c : Thread nD τ).loc main_arg6) (ix1 h))) : (dats m 0 c).arrAt 5 cfg0.N = kScales m c :=
  (dats m 0 c).arrAt_eq_of_cover 5 _ (fun t _ => by
    rw [flushed5, outs5, canon5 m c t hk]
    exact cut5_eq t _) covered5

/-- The kernel's value codes. -/
theorem final6 (c : Dev nD) (hv : ∀ h : Fin 4, InExp (m ((c : Thread nD τ).loc main_arg7) (ix1 h))) : (dats m 0 c).arrAt 6 cfg0.N = vCodes m c :=
  (dats m 0 c).arrAt_eq_of_cover 6 _ (fun t _ => by
    rw [flushed6, outs6, canon6 m c t hv]
    exact cut6_eq t _) covered6

/-- The kernel's value scales. -/
theorem final7 (c : Dev nD) (hv : ∀ h : Fin 4, InExp (m ((c : Thread nD τ).loc main_arg7) (ix1 h))) : (dats m 0 c).arrAt 7 cfg0.N = vScales m c :=
  (dats m 0 c).arrAt_eq_of_cover 7 _ (fun t _ => by
    rw [flushed7, outs7, canon7 m c t hv]
    exact cut7_eq t _) covered7

end Cert.KernelIdeal.Run

end
-- ==== Proof.Ref.Pay.lean ====
/- What the reference's body stores, in terms of its inputs alone: each result is one block, the term the body computes. -/
module

public import proofs.«01_k».proof.Proof.Gen.ReferenceIdeal.Value

@[expose] public section

set_option maxRecDepth 16384

noncomputable section

namespace Cert.ReferenceIdeal.Run

open Cert.ReferenceIdeal Cert.ReferenceIdeal.Gen Idealize.ShloMosaic Idealize.ShloMosaic.TcCoe Idealize.ShloMosaic.Tactic

variable {F : FTy → Type} [FloatOps F]

/-- The four words of an operand, loaded whole. -/
def rd4 (M : Memref sig .tc .vmem S4 .i32) (hM : M.IsWhole) (x : Vec F S4 .i32) : Vec F S4 .i32 :=
  View.readAt (Elt F) M.view (Rect.unit (s := S4) ![0] S4.size inb_S4_S4_0).toLoadRect (hM.unread x)

/-- The new keys or values, loaded whole. -/
def rdNew (M : Memref sig .tc .vmem S4x4x4x128 .bf16) (hM : M.IsWhole) (x : Vec F S4x4x4x128 .bf16) : Vec F S4x4x4x128 .bf16 :=
  View.readAt (Elt F) M.view (Rect.unit (s := S4x4x4x128) ![0, 0, 0, 0] S4x4x4x128.size inb_S4x4x4x128_S4x4x4x128_0_0_0_0).toLoadRect (hM.unread x)

/-- The queries, loaded whole. -/
def rdQ (M : Memref sig .tc .vmem S4x4x32x128 .bf16) (hM : M.IsWhole) (x : Vec F S4x4x32x128 .bf16) : Vec F S4x4x32x128 .bf16 :=
  View.readAt (Elt F) M.view (Rect.unit (s := S4x4x32x128) ![0, 0, 0, 0] S4x4x32x128.size inb_S4x4x32x128_S4x4x32x128_0_0_0_0).toLoadRect (hM.unread x)

/-- Word `b` of the lengths, as the body loads it. -/
def word (M : Memref sig .tc .smem S4 .i32) (hM : M.IsWhole) (x : Vec F S4 .i32) (b : Fin 4) : BitVec 32 :=
  match b with
  | 0 => View.readAt (Elt F) M.view (Rect.unit (s := S4) ![0] S1.size inb_S4_S1_0).toLoadRect (hM.unread x) (Shape.Idx.first (s := S1) (by decide))
  | 1 => View.readAt (Elt F) M.view (Rect.unit (s := S4) ![1] S1.size inb_S4_S1_1).toLoadRect (hM.unread x) (Shape.Idx.first (s := S1) (by decide))
  | 2 => View.readAt (Elt F) M.view (Rect.unit (s := S4) ![2] S1.size inb_S4_S1_2).toLoadRect (hM.unread x) (Shape.Idx.first (s := S1) (by decide))
  | 3 => View.readAt (Elt F) M.view (Rect.unit (s := S4) ![3] S1.size inb_S4_S1_3).toLoadRect (hM.unread x) (Shape.Idx.first (s := S1) (by decide))

/-- A window of a cache, as the body loads it. -/
def win (M : Memref sig .tc .vmem S4x131072x4x128 .fp8e4m3) (hM : M.IsWhole) (x : Vec F S4x131072x4x128 .fp8e4m3) (off : Fin 4 → ℕ)
    (inb : ∀ a, off a + S1x1024x4x128.size a ≤ S4x131072x4x128.size a) : Vec F S1x1024x4x128 .fp8e4m3 :=
  View.readAt (Elt F) M.view (Rect.unit (s := S4x131072x4x128) off S1x1024x4x128.size inb).toLoadRect (hM.unread x)

/-- Where the window of a row of length `l` starts. -/
def start (l : BitVec 32) : BitVec 32 := Scalar.minsi 130048#32 (Scalar.maxsi 0#32 (Scalar.subi l 1024#32))

/-- The key window of row `b`, its length `l`. -/
def kw (M : Memref sig .tc .vmem S4x131072x4x128 .fp8e4m3) (hM : M.IsWhole) (x : Vec F S4x131072x4x128 .fp8e4m3) (l : BitVec 32) (b : Fin 4) : Vec F S1x1024x4x128 .fp8e4m3 :=
  match b with
  | 0 => win M hM x (k0_off1 l) (k0_off1_inb l (k0_chk1_all l))
  | 1 => win M hM x (k0_off2 l) (k0_off2_inb l (k0_chk2_all l))
  | 2 => win M hM x (k0_off3 l) (k0_off3_inb l (k0_chk3_all l))
  | 3 => win M hM x (k0_off4 l) (k0_off4_inb l (k0_chk4_all l))

/-- The value window of row `b`, its length `l`. -/
def vw (M : Memref sig .tc .vmem S4x131072x4x128 .fp8e4m3) (hM : M.IsWhole) (x : Vec F S4x131072x4x128 .fp8e4m3) (l : BitVec 32) (b : Fin 4) : Vec F S1x1024x4x128 .fp8e4m3 :=
  match b with
  | 0 => win M hM x (k0_off5 l) (k0_off5_inb l (k0_chk1_all l))
  | 1 => win M hM x (k0_off6 l) (k0_off6_inb l (k0_chk2_all l))
  | 2 => win M hM x (k0_off7 l) (k0_off7_inb l (k0_chk3_all l))
  | 3 => win M hM x (k0_off4 l) (k0_off4_inb l (k0_chk4_all l))

/-- The mask of row `b`'s window: position `start + t` lies below the length and above the query's position less 1024. -/
def maskC (l : BitVec 32) : IVec S4x1024 1 := k0_pay12 (F := F) (start l) l l

/-- The mask of the new tokens: token `u` at or before the query's position and above that less 1024. -/
def maskN (l : BitVec 32) : IVec S4x4 1 := k0_pay13 (F := F) l l

/-- The masked scores: the window's, then the new tokens'. -/
def masked (v94 : FVec F S4x4x8x4x1024 .f32) (v97 : FVec F S4x4x8x4x4 .f32) (v100 : FVec F S1x4x1x1x1 .f32) (mc : Fin 4 → IVec S4x1024 1) (mn : Fin 4 → IVec S4x4 1) :
    FVec F S4x4x8x4x1028 .f32 :=
  have v209 : IVec S1x4x1024 1 := shapeCast S1x4x1024 (mc 0) shapeCasts_S4x1024_S1x4x1024
  have v210 : IVec S1x4x1024 1 := shapeCast S1x4x1024 (mc 1) shapeCasts_S4x1024_S1x4x1024
  have v211 : IVec S1x4x1024 1 := shapeCast S1x4x1024 (mc 2) shapeCasts_S4x1024_S1x4x1024
  have v212 : IVec S1x4x1024 1 := shapeCast S1x4x1024 (mc 3) shapeCasts_S4x1024_S1x4x1024
  have v213 : IVec S4x4x1024 1 := concatenate S4x4x1024 0 [⟨S1x4x1024, v209⟩, ⟨S1x4x1024, v210⟩, ⟨S1x4x1024, v211⟩, ⟨S1x4x1024, v212⟩] concatenates_S1x4x1024_S1x4x1024_S1x4x1024_S1x4x1024_S4x4x1024_d0
  have v214 : IVec S1x4x4 1 := shapeCast S1x4x4 (mn 0) shapeCasts_S4x4_S1x4x4
  have v215 : IVec S1x4x4 1 := shapeCast S1x4x4 (mn 1) shapeCasts_S4x4_S1x4x4
  have v216 : IVec S1x4x4 1 := shapeCast S1x4x4 (mn 2) shapeCasts_S4x4_S1x4x4
  have v217 : IVec S1x4x4 1 := shapeCast S1x4x4 (mn 3) shapeCasts_S4x4_S1x4x4
  have v218 : IVec S4x4x4 1 := concatenate S4x4x4 0 [⟨S1x4x4, v214⟩, ⟨S1x4x4, v215⟩, ⟨S1x4x4, v216⟩, ⟨S1x4x4, v217⟩] concatenates_S1x4x4_S1x4x4_S1x4x4_S1x4x4_S4x4x4_d0
  have v219 : IVec S4x1x1x4x1024 1 := shapeCast S4x1x1x4x1024 v213 shapeCasts_S4x4x1024_S4x1x1x4x1024
  have v220 : FVec F S4x4x8x4x1024 .f32 := broadcastTo S4x4x8x4x1024 v100 broadcasts_S1x4x1x1x1_S4x4x8x4x1024
  have v221 : FVec F S4x4x8x4x1024 .f32 := mulf v94 v220
  have cst_91 : F .f32 := Scalar.ofBits .f32 0xFF800000#32
  have v222 : IVec S4x1x1x4x1024 1 := shapeCast S4x1x1x4x1024 v219 shapeCasts_S4x1x1x4x1024_S4x1x1x4x1024
  have v223 : IVec S4x4x8x4x1024 1 := broadcastTo S4x4x8x4x1024 v222 broadcasts_S4x1x1x4x1024_S4x4x8x4x1024
  have v224 : FVec F S4x4x8x4x1024 .f32 := broadcast S4x4x8x4x1024 cst_91
  have v225 : FVec F S4x4x8x4x1024 .f32 := select v223 v221 v224
  have v226 : IVec S4x1x1x4x4 1 := shapeCast S4x1x1x4x4 v218 shapeCasts_S4x4x4_S4x1x1x4x4
  have v227 : FVec F S4x4x8x4x4 .f32 := broadcastTo S4x4x8x4x4 v100 broadcasts_S1x4x1x1x1_S4x4x8x4x4
  have v228 : FVec F S4x4x8x4x4 .f32 := mulf v97 v227
  have cst_92 : F .f32 := Scalar.ofBits .f32 0xFF800000#32
  have v229 : IVec S4x1x1x4x4 1 := shapeCast S4x1x1x4x4 v226 shapeCasts_S4x1x1x4x4_S4x1x1x4x4
  have v230 : IVec S4x4x8x4x4 1 := broadcastTo S4x4x8x4x4 v229 broadcasts_S4x1x1x4x4_S4x4x8x4x4
  have v231 : FVec F S4x4x8x4x4 .f32 := broadcast S4x4x8x4x4 cst_92
  have v232 : FVec F S4x4x8x4x4 .f32 := select v230 v228 v231
  concatenate S4x4x8x4x1028 4 [⟨S4x4x8x4x1024, v225⟩, ⟨S4x4x8x4x4, v232⟩] concatenates_S4x4x8x4x1024_S4x4x8x4x4_S4x4x8x4x1028_d4

/-- The softmax of the masked scores, times the values' scales. -/
def soft (v5 : FVec F S4 .f32) (v233 : FVec F S4x4x8x4x1028 .f32) : FVec F S4x4x8x4x1028 .f32 :=
  have v234 : FVec F S4x4x8x4 .f32 := multiReduction .maximumf [4] S4x4x8x4 v233 0xFF800000#32 reduces_S4x4x8x4x1028_S4x4x8x4 (.inl rfl) rfl
  have v235 : FVec F S4x4x8x4x1 .f32 := shapeCast S4x4x8x4x1 v234 shapeCasts_S4x4x8x4_S4x4x8x4x1
  have v236 : FVec F S4x4x8x4x1028 .f32 := broadcastTo S4x4x8x4x1028 v235 broadcasts_S4x4x8x4x1_S4x4x8x4x1028
  have v237 : FVec F S4x4x8x4x1028 .f32 := subf v233 v236
  have v238 : FVec F S4x4x8x4x1028 .f32 := exp v237
  have v239 : FVec F S4x4x8x4 .f32 := multiReduction .add [4] S4x4x8x4 v238 0x00000000#32 reduces_S4x4x8x4x1028_S4x4x8x4 (.inl rfl) rfl
  have v240 : FVec F S4x4x8x4x1 .f32 := shapeCast S4x4x8x4x1 v239 shapeCasts_S4x4x8x4_S4x4x8x4x1
  have cst_95 : F .f32 := Scalar.ofBits .f32 0x3F800000#32
  have v241 : FVec F S4x4x8x4x1 .f32 := broadcast S4x4x8x4x1 cst_95
  have v242 : FVec F S4x4x8x4x1 .f32 := divf v241 v240
  have v243 : FVec F S4x4x8x4x1028 .f32 := broadcastTo S4x4x8x4x1028 v242 broadcasts_S4x4x8x4x1_S4x4x8x4x1028
  have v244 : FVec F S4x4x8x4x1028 .f32 := mulf v238 v243
  have v245 : FVec F S1x4x1x1x1 .f32 := shapeCast S1x4x1x1x1 v5 shapeCasts_S4_S1x4x1x1x1
  have v246 : FVec F S4x4x8x4x1028 .f32 := broadcastTo S4x4x8x4x1028 v245 broadcasts_S1x4x1x1x1_S4x4x8x4x1028
  mulf v244 v246

/-- The attention of the reference over loaded inputs: lengths `l`, exponents `ke`, `ve`, queries `q`, new keys and values
`kn`, `vn`, windows `k`, `v`. -/
def attn (l : Fin 4 → BitVec 32) (ke ve : Vec F S4 .i32) (q : Vec F S4x4x32x128 .bf16) (kn vn : Vec F S4x4x4x128 .bf16) (k v : Fin 4 → Vec F S1x1024x4x128 .fp8e4m3) :
    FVec F S4x4x32x128 .bf16 :=
  k0_pay1 (k0_pay5 ve vn) (k0_pay8 (v 0) (v 1) (v 2) (v 3))
    (soft (k0_pay3 ve) (masked (k0_pay9 (k0_pay6 q) (k0_pay7 (k 0)) (k 1) (k 2) (k 3)) (k0_pay10 (k0_pay4 ke kn) (k0_pay6 q)) (k0_pay11 (k0_pay2 ke))
      (fun b => maskC (F := F) (l b)) (fun b => maskN (F := F) (l b))))

variable (c : Dev nD) (arg0 : Memref sig .tc .smem S4 .i32) (harg0 : arg0.IsWhole) (arg1 : Memref sig .tc .vmem S4 .i32) (harg1 : arg1.IsWhole) (arg2 : Memref sig .tc .vmem S4 .i32) (harg2 : arg2.IsWhole) (arg3 : Memref sig .tc .vmem S4x4x32x128 .bf16) (harg3 : arg3.IsWhole) (arg4 : Memref sig .tc .vmem S4x4x4x128 .bf16) (harg4 : arg4.IsWhole) (arg5 : Memref sig .tc .vmem S4x4x4x128 .bf16) (harg5 : arg5.IsWhole) (arg6 : Memref sig .tc .vmem S4x131072x4x128 .fp8e4m3) (harg6 : arg6.IsWhole) (arg7 : Memref sig .tc .vmem S4x131072x4x128 .fp8e4m3) (harg7 : arg7.IsWhole) (arg8 : Memref sig .tc .vmem S4x4x32x128 .bf16) (harg8 : arg8.IsWhole) (arg9 : Memref sig .tc .vmem S4x4x4x128 .fp8e4m3) (harg9 : arg9.IsWhole) (arg10 : Memref sig .tc .vmem S4 .f32) (harg10 : arg10.IsWhole) (arg11 : Memref sig .tc .vmem S4x4x4x128 .fp8e4m3) (harg11 : arg11.IsWhole) (arg12 : Memref sig .tc .vmem S4 .f32) (harg12 : arg12.IsWhole)
    (x0 : Vec F S4 .i32) (x1 : Vec F S4 .i32) (x2 : Vec F S4 .i32) (x3 : Vec F S4x4x32x128 .bf16) (x4 : Vec F S4x4x4x128 .bf16) (x5 : Vec F S4x4x4x128 .bf16) (x6 : Vec F S4x131072x4x128 .fp8e4m3) (x7 : Vec F S4x131072x4x128 .fp8e4m3)

/-- The run's attention. -/
theorem L8_eq : ((kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7)).1 = [⟨Rect.unit (s := S4x4x32x128) ![0, 0, 0, 0] S4x4x32x128.size inb_S4x4x32x128_S4x4x32x128_0_0_0_0,
      attn (word arg0 harg0 x0) (rd4 arg1 harg1 x1) (rd4 arg2 harg2 x2) (rdQ arg3 harg3 x3) (rdNew arg4 harg4 x4) (rdNew arg5 harg5 x5)
        (fun b => kw arg6 harg6 x6 (word arg0 harg0 x0 b) b) (fun b => vw arg7 harg7 x7 (word arg0 harg0 x0 b) b)⟩] := by
  sl_kernel_rfl

/-- The run's key codes. -/
theorem L9_eq : ((kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7)).2.1 = [⟨Rect.unit (s := S4x4x4x128) ![0, 0, 0, 0] S4x4x4x128.size inb_S4x4x4x128_S4x4x4x128_0_0_0_0,
      k0_pay4 (rd4 arg1 harg1 x1) (rdNew arg4 harg4 x4)⟩] := by
  sl_kernel_rfl

/-- The run's key scales. -/
theorem L10_eq : ((kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7)).2.2.1 = [⟨Rect.unit (s := S4) ![0] S4.size inb_S4_S4_0,
      k0_pay2 (rd4 arg1 harg1 x1)⟩] := by
  sl_kernel_rfl

/-- The run's value codes. -/
theorem L11_eq : ((kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7)).2.2.2.1 = [⟨Rect.unit (s := S4x4x4x128) ![0, 0, 0, 0] S4x4x4x128.size inb_S4x4x4x128_S4x4x4x128_0_0_0_0,
      k0_pay5 (rd4 arg2 harg2 x2) (rdNew arg5 harg5 x5)⟩] := by
  sl_kernel_rfl

/-- The run's value scales. -/
theorem L12_eq : ((kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7)).2.2.2.2.val = [⟨Rect.unit (s := S4) ![0] S4.size inb_S4_S4_0,
      k0_pay3 (rd4 arg2 harg2 x2)⟩] := by
  sl_kernel_rfl

end Cert.ReferenceIdeal.Run

end
-- ==== Proof.Ref.Ops.lean ====
/- The reference's terms read at an index on the extended reals. -/
module

public import proofs.«01_k».proof.Proof.Ref.Pay
public import proofs.«01_k».proof.Proof.Val.Math
public import proofs.«01_k».proof.Proof.Val.Scal
public import Idealize.ShloMosaic.Lib.Pointwise

@[expose] public section

set_option maxRecDepth 16384

noncomputable section

namespace Cert.ReferenceIdeal.Run

open Cert.ReferenceIdeal Cert.ReferenceIdeal.Gen Idealize.ShloMosaic Cert.Att
open Cert.KernelIdeal.Blk (two two_pos sm sm_pos ofBits_sm exp2_eq code)

/-! ## Scales and codes -/

/-- The reference's power of two at one word. -/
theorem exp2_word (e : BitVec 32) : FloatOps.exp2 (F := Ideal) (FloatOps.sitofp (F := Ideal) FTy.f32 e) = ((two e : ℝ) : EReal) := exp2_eq e

theorem pay2_apply (e : Vec Ideal S4 .i32) (h : Fin 4) : k0_pay2 (F := Ideal) e (ix1 h) = ((two (e (ix1 h)) : ℝ) : EReal) := by
  pointwise [k0_pay2]
  exact exp2_word _

theorem pay3_apply (e : Vec Ideal S4 .i32) (h : Fin 4) : k0_pay3 (F := Ideal) e (ix1 h) = ((two (e (ix1 h)) : ℝ) : EReal) := by
  pointwise [k0_pay3]
  exact exp2_word _

theorem pay4_apply (e : Vec Ideal S4 .i32) (x : Vec Ideal S4x4x4x128 .bf16) (b s h : Fin 4) (d : Fin 128) :
    k0_pay4 (F := Ideal) e x (ix4 b s h d) = code (e (ix1 h)) (x (ix4 b s h d)) := by
  pointwise [k0_pay4]
  rw [exp2_word]
  rfl

theorem pay5_apply (e : Vec Ideal S4 .i32) (x : Vec Ideal S4x4x4x128 .bf16) (b s h : Fin 4) (d : Fin 128) :
    k0_pay5 (F := Ideal) e x (ix4 b s h d) = code (e (ix1 h)) (x (ix4 b s h d)) := by
  pointwise [k0_pay5]
  rw [exp2_word]
  rfl

/-! ## The scores -/

theorem pay9_apply (q : Vec Ideal S4x4x32x128 .bf16) (k : Fin 4 → Vec Ideal S1x1024x4x128 .fp8e4m3) (b h : Fin 4) (g : Fin 8) (s : Fin 4) (t : Fin 1024) :
    k0_pay9 (F := Ideal) (k0_pay6 q) (k0_pay7 (k 0)) (k 1) (k 2) (k 3) (ix5 b h g s t)
      = ∑ x : Fin 128, q (ix4 b s ⟨(h : ℕ) * 8 + (g : ℕ), by omega⟩ x) * k b (ix4 0 t h x) := by
  pointwise [k0_pay9, k0_pay6, k0_pay7]
  refine Finset.sum_congr rfl fun x _ => (mul_comm _ _).trans (congrArg (q _ * ·) ?_)
  match b with
  | 0 => rfl
  | 1 => rfl
  | 2 => rfl
  | 3 => rfl

theorem pay10_apply (q : Vec Ideal S4x4x32x128 .bf16) (n : FVec Ideal S4x4x4x128 .fp8e4m3) (b h : Fin 4) (g : Fin 8) (s : Fin 4) (t : Fin 4) :
    k0_pay10 (F := Ideal) n (k0_pay6 q) (ix5 b h g s t) = ∑ x : Fin 128, q (ix4 b s ⟨(h : ℕ) * 8 + (g : ℕ), by omega⟩ x) * n (ix4 b t h x) := by
  pointwise [k0_pay10, k0_pay6]
  exact Finset.sum_congr rfl fun x _ => mul_comm _ _

/-! ## The masks -/

/-- A length at least the window and at most the cache. -/
def InLen (l : BitVec 32) : Prop := 1024 ≤ l.toInt ∧ l.toInt ≤ 131072

theorem InLen.exists {l : BitVec 32} (h : InLen l) : ∃ n : ℕ, 1024 ≤ n ∧ n ≤ 131072 ∧ l = BitVec.ofNat 32 n := by
  obtain ⟨h1, h2⟩ := h
  have e : l.toNat < 2 ^ 31 := by
    by_contra hc
    rw [BitVec.toInt_eq_toNat_cond] at h1
    rw [if_neg (by omega)] at h1
    have := l.isLt
    omega
  have e2 : l.toInt = l.toNat := by rw [BitVec.toInt_eq_toNat_cond, if_pos (by omega)]
  exact ⟨l.toNat, by omega, by omega, by rw [BitVec.ofNat_toNat, BitVec.setWidth_eq]⟩

theorem toInt_small (n : ℕ) (h : n < 2 ^ 31) : (BitVec.ofNat 32 n).toInt = n := by
  rw [BitVec.toInt_eq_toNat_cond, BitVec.toNat_ofNat, Nat.mod_eq_of_lt (by omega), if_pos (by omega)]

theorem ofNat_sub (n m : ℕ) (h : m ≤ n) (hn : n < 2 ^ 32) : BitVec.ofNat 32 n - BitVec.ofNat 32 m = BitVec.ofNat 32 (n - m) := by
  apply BitVec.eq_of_toNat_eq
  rw [BitVec.toNat_sub, BitVec.toNat_ofNat, BitVec.toNat_ofNat, BitVec.toNat_ofNat, Nat.mod_eq_of_lt hn, Nat.mod_eq_of_lt (show m < 2 ^ 32 by omega), Nat.mod_eq_of_lt (show n - m < 2 ^ 32 by omega)]
  omega

theorem slt_small (a b : ℕ) (ha : a < 2 ^ 31) (hb : b < 2 ^ 31) : (BitVec.ofNat 32 a).slt (BitVec.ofNat 32 b) = decide (a < b) := by
  rw [BitVec.slt, toInt_small a ha, toInt_small b hb]
  exact decide_eq_decide.2 (by omega)

theorem sle_small (a b : ℕ) (ha : a < 2 ^ 31) (hb : b < 2 ^ 31) : (BitVec.ofNat 32 a).sle (BitVec.ofNat 32 b) = decide (a ≤ b) := by
  rw [BitVec.sle, toInt_small a ha, toInt_small b hb]
  exact decide_eq_decide.2 (by omega)

/-- The window of a length starts 1024 tokens before its end. -/
theorem start_eq (n : ℕ) (h1 : 1024 ≤ n) (h2 : n ≤ 131072) : start (BitVec.ofNat 32 n) = BitVec.ofNat 32 (n - 1024) := by
  unfold start
  rw [show Scalar.subi (BitVec.ofNat 32 n) 1024#32 = BitVec.ofNat 32 (n - 1024) from ofNat_sub n 1024 h1 (by omega)]
  rw [show Scalar.maxsi 0#32 (BitVec.ofNat 32 (n - 1024)) = BitVec.ofNat 32 (n - 1024) from by
    show (if (BitVec.ofNat 32 (n - 1024)).slt (BitVec.ofNat 32 0) then _ else _) = _
    rw [slt_small _ _ (by omega) (by omega)]; simp]
  show (if (BitVec.ofNat 32 130048).slt (BitVec.ofNat 32 (n - 1024)) then _ else _) = _
  rw [slt_small _ _ (by omega) (by omega)]
  rw [if_neg (by simp; omega)]

theorem bits_and (p q : Prop) [Decidable p] [Decidable q] : BitVec.ofBool (decide p) &&& BitVec.ofBool (decide q) = if p ∧ q then 1#1 else 0#1 := by
  by_cases hp : p <;> by_cases hq : q <;> simp [hp, hq]

/-- Of the window, the tokens after the query's own place are seen. -/
theorem maskC_apply (l : BitVec 32) (hl : InLen l) (s : Fin 4) (t : Fin 1024) : maskC (F := Ideal) l (ix2 s t) = if (s : ℕ) < t then 1#1 else 0#1 := by
  obtain ⟨n, h1, h2, rfl⟩ := hl.exists
  pointwise [maskC, k0_pay12]
  rw [start_eq n h1 h2]
  have e1 : IntOp.addi (BitVec.ofNat 32 (n - 1024)) (BitVec.ofNat 32 (t : ℕ)) = BitVec.ofNat 32 (n - 1024 + t) := (BitVec.ofNat_add ..).symm
  have e2 : IntOp.subi (IntOp.addi (BitVec.ofNat 32 n) (BitVec.ofNat 32 (s : ℕ))) 1024#32 = BitVec.ofNat 32 (n + s - 1024) := by
    rw [show IntOp.addi (BitVec.ofNat 32 n) (BitVec.ofNat 32 (s : ℕ)) = BitVec.ofNat 32 (n + s) from (BitVec.ofNat_add ..).symm]
    exact ofNat_sub _ 1024 (by omega) (by omega)
  rw [e1, e2]
  show BitVec.ofBool ((BitVec.ofNat 32 (n - 1024 + t)).slt (BitVec.ofNat 32 n)) &&& BitVec.ofBool ((BitVec.ofNat 32 (n + s - 1024)).slt (BitVec.ofNat 32 (n - 1024 + t))) = _
  rw [slt_small _ _ (by omega) (by omega), slt_small _ _ (by omega) (by omega), bits_and]
  exact if_congr (by omega) rfl rfl

/-- Of the new tokens, those up to the query's own are seen. -/
theorem maskN_apply (l : BitVec 32) (hl : InLen l) (s u : Fin 4) : maskN (F := Ideal) l (ix2 s u) = if (u : ℕ) ≤ s then 1#1 else 0#1 := by
  obtain ⟨n, h1, h2, rfl⟩ := hl.exists
  pointwise [maskN, k0_pay13]
  have e1 : IntOp.addi (BitVec.ofNat 32 n) (BitVec.ofNat 32 (u : ℕ)) = BitVec.ofNat 32 (n + u) := (BitVec.ofNat_add ..).symm
  have e3 : IntOp.addi (BitVec.ofNat 32 n) (BitVec.ofNat 32 (s : ℕ)) = BitVec.ofNat 32 (n + s) := (BitVec.ofNat_add ..).symm
  have e2 : IntOp.subi (BitVec.ofNat 32 (n + s)) 1024#32 = BitVec.ofNat 32 (n + s - 1024) := ofNat_sub _ 1024 (by omega) (by omega)
  rw [e1, e3, e2]
  show BitVec.ofBool ((BitVec.ofNat 32 (n + u)).sle (BitVec.ofNat 32 (n + s))) &&& BitVec.ofBool ((BitVec.ofNat 32 (n + s - 1024)).slt (BitVec.ofNat 32 (n + u))) = _
  rw [sle_small _ _ (by omega) (by omega), slt_small _ _ (by omega) (by omega), bits_and]
  exact if_congr (by omega) rfl rfl

/-! ## The masked scores, the softmax and the weighted sum -/

theorem ninf : Ideal.ofBits .f32 4286578688#32 = ⊥ := by simp [Ideal.ofBits, Ideal.ieee]

theorem sel_ite {α : Type} (p : Prop) [Decidable p] (a b : α) : Scalar.select (if p then 1#1 else 0#1) a b = if p then a else b := by
  by_cases h : p <;> simp [h, Scalar.select]

theorem sel4 {α : Type} (f : Fin 4 → α) (b : Fin 4) :
    (if (b : ℕ) < 1 then f 0 else if (b : ℕ) - 1 < 1 then f 1 else if (b : ℕ) - 1 - 1 < 1 then f 2 else f 3) = f b := by
  match b with
  | 0 => rfl
  | 1 => rfl
  | 2 => rfl
  | 3 => rfl

theorem masked_apply (v94 : FVec Ideal S4x4x8x4x1024 .f32) (v97 : FVec Ideal S4x4x8x4x4 .f32) (v2 : FVec Ideal S4 .f32) (l : Fin 4 → BitVec 32) (hl : ∀ b, InLen (l b))
    (b h : Fin 4) (g : Fin 8) (s : Fin 4) (t : Fin 1028) :
    masked (F := Ideal) v94 v97 (k0_pay11 v2) (fun b => maskC (F := Ideal) (l b)) (fun b => maskN (F := Ideal) (l b)) (ix5 b h g s t)
      = refScore s (fun t => v94 (ix5 b h g s t)) (fun u => v97 (ix5 b h g s u)) (v2 (ix1 h) * ((sm : ℝ) : EReal)) t := by
  pointwise [masked, k0_pay11, ofBits_sm, ninf]
  unfold refScore
  by_cases ht : (t : ℕ) < 1024
  · refine (dif_pos ht).trans (Eq.trans ?_ (by rw [dif_pos ht]))
    refine (congrArg (Scalar.select · _ _) (sel4 (fun b => maskC (F := Ideal) (l b) (ix2 s ⟨t, ht⟩)) b)).trans ?_
    rw [maskC_apply _ (hl b), sel_ite]
  · refine (dif_neg ht).trans (Eq.trans ?_ (by rw [dif_neg ht]))
    refine (congrArg (Scalar.select · _ _) (sel4 (fun b => maskN (F := Ideal) (l b) (ix2 s ⟨(t : ℕ) - 1024, by omega⟩)) b)).trans ?_
    rw [maskN_apply _ (hl b), sel_ite]

theorem soft_apply (v5 : FVec Ideal S4 .f32) (v233 : FVec Ideal S4x4x8x4x1028 .f32) (b h : Fin 4) (g : Fin 8) (s : Fin 4) (t : Fin 1028) :
    soft (F := Ideal) v5 v233 (ix5 b h g s t) = refProb (fun u => v233 (ix5 b h g s u)) (v5 (ix1 h)) t := by
  pointwise [soft, ninf]
  rfl

theorem pay1_apply (n : FVec Ideal S4x4x4x128 .fp8e4m3) (v : Fin 4 → Vec Ideal S1x1024x4x128 .fp8e4m3) (p : FVec Ideal S4x4x8x4x1028 .f32)
    (b h : Fin 4) (g : Fin 8) (s : Fin 4) (d : Fin 128) :
    k0_pay1 (F := Ideal) n (k0_pay8 (v 0) (v 1) (v 2) (v 3)) p (ix4 b s ⟨8 * (h : ℕ) + g, by omega⟩ d)
      = (∑ t : Fin 1024, v b (ix4 0 t h d) * p (ix5 b h g s ⟨t, by omega⟩)) + ∑ u : Fin 4, n (ix4 b u h d) * p (ix5 b h g s ⟨1024 + u, by omega⟩) := by
  pointwise [k0_pay1, k0_pay8]
  refine congrArg (· + _) (Finset.sum_congr rfl fun x _ => congrArg (· * _) ?_)
  match b with
  | 0 => rfl
  | 1 => rfl
  | 2 => rfl
  | 3 => rfl

/-- THE REFERENCE'S ATTENTION at query row `8h + g` of step `s`: the masked softmax of the scores over window and new tokens,
applied to the values. -/
theorem attn_apply (l : Fin 4 → BitVec 32) (hl : ∀ b, InLen (l b)) (ke ve : Vec Ideal S4 .i32) (q : Vec Ideal S4x4x32x128 .bf16) (kn vn : Vec Ideal S4x4x4x128 .bf16)
    (k v : Fin 4 → Vec Ideal S1x1024x4x128 .fp8e4m3) (b h : Fin 4) (g : Fin 8) (s : Fin 4) (d : Fin 128) :
    attn (F := Ideal) l ke ve q kn vn k v (ix4 b s ⟨8 * (h : ℕ) + g, by omega⟩ d)
      = refOut s (fun t => ∑ x : Fin 128, q (ix4 b s ⟨(h : ℕ) * 8 + (g : ℕ), by omega⟩ x) * k b (ix4 0 t h x)) (fun t => v b (ix4 0 t h d))
          (fun u => ∑ x : Fin 128, q (ix4 b s ⟨(h : ℕ) * 8 + (g : ℕ), by omega⟩ x) * code (ke (ix1 h)) (kn (ix4 b u h x))) (fun u => code (ve (ix1 h)) (vn (ix4 b u h d)))
          ((two (ke (ix1 h)) * sm : ℝ) : EReal) ((two (ve (ix1 h)) : ℝ) : EReal) := by
  unfold attn
  rw [pay1_apply]
  unfold refOut
  simp only [soft_apply, masked_apply _ _ _ l hl, pay9_apply, pay10_apply, pay2_apply, pay3_apply, pay4_apply, pay5_apply, EReal.coe_mul]

end Cert.ReferenceIdeal.Run

end
-- ==== Proof.Ref.Final.lean ====
/- The reference's result arrays as functions of its argument arrays, on the extended reals. -/
module

public import proofs.«01_k».proof.Proof.Ref.Ops
public import proofs.«01_k».proof.Proof.Val.Spec
public import Idealize.ShloMosaic.Lib.WholeRead

@[expose] public section

set_option maxRecDepth 16384

noncomputable section

namespace Cert.ReferenceIdeal.Run

open Cert.ReferenceIdeal Cert.ReferenceIdeal.Gen Cert.ReferenceIdeal.Value Idealize.ShloMosaic Idealize.ShloMosaic.TcCoe Idealize.SL.Sem
open Cert.Att (att place first head)
open Cert.KernelIdeal.Blk (two code)

/-! ## The loads -/

theorem hz1 : (![0] : Fin 1 → Nat) = fun _ => 0 := funext fun a => by fin_cases a; rfl
theorem hz4 : (![0, 0, 0, 0] : Fin 4 → Nat) = fun _ => 0 := funext fun a => by fin_cases a <;> rfl

theorem rd4_eq (M : Memref sig .tc .vmem S4 .i32) (hM : M.IsWhole) (x : Vec Ideal S4 .i32) : rd4 M hM x = x := by
  unfold rd4; rw [View.readAt_eq_ld, hM.read_unread, View.ld_unit_zero hz1]

theorem rdNew_eq (M : Memref sig .tc .vmem S4x4x4x128 .bf16) (hM : M.IsWhole) (x : Vec Ideal S4x4x4x128 .bf16) : rdNew M hM x = x := by
  unfold rdNew; rw [View.readAt_eq_ld, hM.read_unread, View.ld_unit_zero hz4]

theorem rdQ_eq (M : Memref sig .tc .vmem S4x4x32x128 .bf16) (hM : M.IsWhole) (x : Vec Ideal S4x4x32x128 .bf16) : rdQ M hM x = x := by
  unfold rdQ; rw [View.readAt_eq_ld, hM.read_unread, View.ld_unit_zero hz4]

theorem word_eq (M : Memref sig .tc .smem S4 .i32) (hM : M.IsWhole) (x : Vec Ideal S4 .i32) (b : Fin 4) : word M hM x b = x (ix1 b) := by
  match b with
  | 0 => exact (hM.readAt_unread x _ _).trans (congrArg x (funext fun a => by match a with | ⟨0, _⟩ => rfl))
  | 1 => exact (hM.readAt_unread x _ _).trans (congrArg x (funext fun a => by match a with | ⟨0, _⟩ => rfl))
  | 2 => exact (hM.readAt_unread x _ _).trans (congrArg x (funext fun a => by match a with | ⟨0, _⟩ => rfl))
  | 3 => exact (hM.readAt_unread x _ _).trans (congrArg x (funext fun a => by match a with | ⟨0, _⟩ => rfl))

/-- The window ends within the cache. -/
theorem first_le (l : BitVec 32) : (first l).toNat + 1024 ≤ 131072 := k0_off1_inb l (k0_chk1_all l) 1

/-- A load of a window at `(b, start, 0, 0)`, at an index. -/
theorem win_eq (M : Memref sig .tc .vmem S4x131072x4x128 .fp8e4m3) (hM : M.IsWhole) (x : Vec Ideal S4x131072x4x128 .fp8e4m3) (l : BitVec 32) (b : Fin 4)
    (off : Fin 4 → ℕ) (ho : off = ![(b : ℕ), (first l).toNat, 0, 0]) (inb : ∀ a, off a + S1x1024x4x128.size a ≤ S4x131072x4x128.size a)
    (t : Fin 1024) (h : Fin 4) (d : Fin 128) : win M hM x off inb (ix4 0 t h d) = x (ix4 b (place l t) h d) := by
  subst ho
  refine (hM.readAt_unread x _ _).trans (congrArg x (funext fun a => Fin.ext ?_))
  have hl := first_le l
  match a with
  | ⟨0, _⟩ => show (b : ℕ) + 1 * 0 = b; omega
  | ⟨1, _⟩ => show (first l).toNat + 1 * (t : ℕ) = ((first l).toNat + t) % 131072; omega
  | ⟨2, _⟩ => show 0 + 1 * (h : ℕ) = h; omega
  | ⟨3, _⟩ => show 0 + 1 * (d : ℕ) = d; omega

theorem kw_eq (M : Memref sig .tc .vmem S4x131072x4x128 .fp8e4m3) (hM : M.IsWhole) (x : Vec Ideal S4x131072x4x128 .fp8e4m3) (l : BitVec 32) (b : Fin 4)
    (t : Fin 1024) (h : Fin 4) (d : Fin 128) : kw M hM x l b (ix4 0 t h d) = x (ix4 b (place l t) h d) := by
  match b with
  | 0 => exact win_eq M hM x l 0 _ rfl _ t h d
  | 1 => exact win_eq M hM x l 1 _ rfl _ t h d
  | 2 => exact win_eq M hM x l 2 _ rfl _ t h d
  | 3 => exact win_eq M hM x l 3 _ rfl _ t h d

theorem vw_eq (M : Memref sig .tc .vmem S4x131072x4x128 .fp8e4m3) (hM : M.IsWhole) (x : Vec Ideal S4x131072x4x128 .fp8e4m3) (l : BitVec 32) (b : Fin 4)
    (t : Fin 1024) (h : Fin 4) (d : Fin 128) : vw M hM x l b (ix4 0 t h d) = x (ix4 b (place l t) h d) := by
  match b with
  | 0 => exact win_eq M hM x l 0 _ rfl _ t h d
  | 1 => exact win_eq M hM x l 1 _ rfl _ t h d
  | 2 => exact win_eq M hM x l 2 _ rfl _ t h d
  | 3 => exact win_eq M hM x l 3 _ rfl _ t h d

/-! ## What the body leaves in each output -/

variable (c : Dev nD) (arg0 : Memref sig .tc .smem S4 .i32) (harg0 : arg0.IsWhole) (arg1 : Memref sig .tc .vmem S4 .i32) (harg1 : arg1.IsWhole) (arg2 : Memref sig .tc .vmem S4 .i32) (harg2 : arg2.IsWhole) (arg3 : Memref sig .tc .vmem S4x4x32x128 .bf16) (harg3 : arg3.IsWhole) (arg4 : Memref sig .tc .vmem S4x4x4x128 .bf16) (harg4 : arg4.IsWhole) (arg5 : Memref sig .tc .vmem S4x4x4x128 .bf16) (harg5 : arg5.IsWhole) (arg6 : Memref sig .tc .vmem S4x131072x4x128 .fp8e4m3) (harg6 : arg6.IsWhole) (arg7 : Memref sig .tc .vmem S4x131072x4x128 .fp8e4m3) (harg7 : arg7.IsWhole) (arg8 : Memref sig .tc .vmem S4x4x32x128 .bf16) (harg8 : arg8.IsWhole) (arg9 : Memref sig .tc .vmem S4x4x4x128 .fp8e4m3) (harg9 : arg9.IsWhole) (arg10 : Memref sig .tc .vmem S4 .f32) (harg10 : arg10.IsWhole) (arg11 : Memref sig .tc .vmem S4x4x4x128 .fp8e4m3) (harg11 : arg11.IsWhole) (arg12 : Memref sig .tc .vmem S4 .f32) (harg12 : arg12.IsWhole)
    (x0 : Vec Ideal S4 .i32) (x1 : Vec Ideal S4 .i32) (x2 : Vec Ideal S4 .i32) (x3 : Vec Ideal S4x4x32x128 .bf16) (x4 : Vec Ideal S4x4x4x128 .bf16) (x5 : Vec Ideal S4x4x4x128 .bf16) (x6 : Vec Ideal S4x131072x4x128 .fp8e4m3) (x7 : Vec Ideal S4x131072x4x128 .fp8e4m3)

theorem out8_eq (hl : ∀ b : Fin 4, InLen (x0 (ix1 b))) : out0_A_8 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7
    = fun y => att (fun b => x0 (ix1 b)) (fun h => x1 (ix1 h)) (fun h => x2 (ix1 h)) (fun b s r d => x3 (ix4 b s r d)) (fun b s h d => x4 (ix4 b s h d)) (fun b s h d => x5 (ix4 b s h d))
        (fun b t h d => x6 (ix4 b t h d)) (fun b t h d => x7 (ix4 b t h d)) (y 0) (y 1) (y 2) (y 3) := by
  unfold out0_A_8
  rw [View.read_writes_junk_eq_canon, L8_eq, View.canon_unit_zero hz4, rd4_eq, rd4_eq, rdQ_eq, rdNew_eq, rdNew_eq]
  funext y
  idx_vars y
  have hr : y2 = ⟨8 * ((head y2 : Fin 4) : ℕ) + ((⟨(y2 : ℕ) % 8, by omega⟩ : Fin 8) : ℕ), by simp only [head]; omega⟩ := Fin.ext (by simp only [head]; omega)
  have hr' : (⟨((head y2 : Fin 4) : ℕ) * 8 + ((⟨(y2 : ℕ) % 8, by omega⟩ : Fin 8) : ℕ), by simp only [head]; omega⟩   : Fin 32) = y2 := Fin.ext (by simp only [head]; omega)
  refine (congrArg _ ((ix4_inj ..).2 ⟨rfl, rfl, hr, rfl⟩)).trans ((attn_apply _ (fun b => by rw [word_eq]; exact hl b) x1 x2 x3 x4 x5 _ _ y0 (head y2) ⟨(y2 : ℕ) % 8, by omega⟩ y1 y3).trans ?_)
  simp only [kw_eq, vw_eq, word_eq, hr']
  rfl

theorem out9_eq : out0_A_9 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7
    = fun y => code (x1 (ix1 (y 2))) (x4 (ix4 (y 0) (y 1) (y 2) (y 3))) := by
  unfold out0_A_9
  rw [View.read_writes_junk_eq_canon, L9_eq, View.canon_unit_zero hz4, rd4_eq, rdNew_eq]
  funext y
  idx_vars y
  exact pay4_apply _ _ _ _ _ _

theorem out11_eq : out0_A_11 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7
    = fun y => code (x2 (ix1 (y 2))) (x5 (ix4 (y 0) (y 1) (y 2) (y 3))) := by
  unfold out0_A_11
  rw [View.read_writes_junk_eq_canon, L11_eq, View.canon_unit_zero hz4, rd4_eq, rdNew_eq]
  funext y
  idx_vars y
  exact pay5_apply _ _ _ _ _ _

theorem out10_eq : out0_A_10 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7
    = fun y => ((two (x1 (ix1 (y 0))) : ℝ) : EReal) := by
  unfold out0_A_10
  rw [View.read_writes_junk_eq_canon, L10_eq, View.canon_unit_zero hz1, rd4_eq]
  funext y
  idx_vars y
  exact pay2_apply _ _

theorem out12_eq : out0_A_12 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7
    = fun y => ((two (x2 (ix1 (y 0))) : ℝ) : EReal) := by
  unfold out0_A_12
  rw [View.read_writes_junk_eq_canon, L12_eq, View.canon_unit_zero hz1, rd4_eq]
  funext y
  idx_vars y
  exact pay3_apply _ _

/-! ## The arrays -/

variable (m : (ℓ : Loc nD τ sig) → Buf (Elt Ideal) ℓ) (ρ : Dev nD → PrngReg)

/-- Window 0's one block is its whole array. -/
theorem zero0 : ∀ t : Fin cfg0.N, win0_0.index t (0 : Fin 1) = 0 :=
  (by decide +kernel : ∀ t : Fin grid0.N, _)

theorem emb0 (t : Fin cfg0.N) (j : S4.Idx) : ((cfg0.win 0).blk t).view.emb j = j := by
  have e0 := zero0 t
  funext a; apply Fin.ext
  match a with
  | ⟨0, _⟩ => show win0_0.index t (0 : Fin 1) * 4 + 1 * (j 0).val = (j 0).val; omega

/-- Window 1's one block is its whole array. -/
theorem zero1 : ∀ t : Fin cfg0.N, win0_1.index t (0 : Fin 1) = 0 :=
  (by decide +kernel : ∀ t : Fin grid0.N, _)

theorem emb1 (t : Fin cfg0.N) (j : S4.Idx) : ((cfg0.win 1).blk t).view.emb j = j := by
  have e0 := zero1 t
  funext a; apply Fin.ext
  match a with
  | ⟨0, _⟩ => show win0_1.index t (0 : Fin 1) * 4 + 1 * (j 0).val = (j 0).val; omega

/-- Window 2's one block is its whole array. -/
theorem zero2 : ∀ t : Fin cfg0.N, win0_2.index t (0 : Fin 1) = 0 :=
  (by decide +kernel : ∀ t : Fin grid0.N, _)

theorem emb2 (t : Fin cfg0.N) (j : S4.Idx) : ((cfg0.win 2).blk t).view.emb j = j := by
  have e0 := zero2 t
  funext a; apply Fin.ext
  match a with
  | ⟨0, _⟩ => show win0_2.index t (0 : Fin 1) * 4 + 1 * (j 0).val = (j 0).val; omega

/-- Window 3's one block is its whole array. -/
theorem zero3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

theorem emb3 (t : Fin cfg0.N) (j : S4x4x32x128.Idx) : ((cfg0.win 3).blk t).view.emb j = j := by
  obtain ⟨e0, e1, e2, e3⟩ := zero3 t
  funext a; apply Fin.ext
  match a with
  | ⟨0, _⟩ => show win0_3.index t (0 : Fin 4) * 4 + 1 * (j 0).val = (j 0).val; omega
  | ⟨1, _⟩ => show win0_3.index t (1 : Fin 4) * 4 + 1 * (j 1).val = (j 1).val; omega
  | ⟨2, _⟩ => show win0_3.index t (2 : Fin 4) * 32 + 1 * (j 2).val = (j 2).val; omega
  | ⟨3, _⟩ => show win0_3.index t (3 : Fin 4) * 128 + 1 * (j 3).val = (j 3).val; omega

/-- Window 4's one block is its whole array. -/
theorem zero4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

theorem emb4 (t : Fin cfg0.N) (j : S4x4x4x128.Idx) : ((cfg0.win 4).blk t).view.emb j = j := by
  obtain ⟨e0, e1, e2, e3⟩ := zero4 t
  funext a; apply Fin.ext
  match a with
  | ⟨0, _⟩ => show win0_4.index t (0 : Fin 4) * 4 + 1 * (j 0).val = (j 0).val; omega
  | ⟨1, _⟩ => show win0_4.index t (1 : Fin 4) * 4 + 1 * (j 1).val = (j 1).val; omega
  | ⟨2, _⟩ => show win0_4.index t (2 : Fin 4) * 4 + 1 * (j 2).val = (j 2).val; omega
  | ⟨3, _⟩ => show win0_4.index t (3 : Fin 4) * 128 + 1 * (j 3).val = (j 3).val; omega

/-- Window 5's one block is its whole array. -/
theorem zero5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

theorem emb5 (t : Fin cfg0.N) (j : S4x4x4x128.Idx) : ((cfg0.win 5).blk t).view.emb j = j := by
  obtain ⟨e0, e1, e2, e3⟩ := zero5 t
  funext a; apply Fin.ext
  match a with
  | ⟨0, _⟩ => show win0_5.index t (0 : Fin 4) * 4 + 1 * (j 0).val = (j 0).val; omega
  | ⟨1, _⟩ => show win0_5.index t (1 : Fin 4) * 4 + 1 * (j 1).val = (j 1).val; omega
  | ⟨2, _⟩ => show win0_5.index t (2 : Fin 4) * 4 + 1 * (j 2).val = (j 2).val; omega
  | ⟨3, _⟩ => show win0_5.index t (3 : Fin 4) * 128 + 1 * (j 3).val = (j 3).val; omega

/-- Window 6's one block is its whole array. -/
theorem zero6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

theorem emb6 (t : Fin cfg0.N) (j : S4x131072x4x128.Idx) : ((cfg0.win 6).blk t).view.emb j = j := by
  obtain ⟨e0, e1, e2, e3⟩ := zero6 t
  funext a; apply Fin.ext
  match a with
  | ⟨0, _⟩ => show win0_6.index t (0 : Fin 4) * 4 + 1 * (j 0).val = (j 0).val; omega
  | ⟨1, _⟩ => show win0_6.index t (1 : Fin 4) * 131072 + 1 * (j 1).val = (j 1).val; omega
  | ⟨2, _⟩ => show win0_6.index t (2 : Fin 4) * 4 + 1 * (j 2).val = (j 2).val; omega
  | ⟨3, _⟩ => show win0_6.index t (3 : Fin 4) * 128 + 1 * (j 3).val = (j 3).val; omega

/-- Window 7's one block is its whole array. -/
theorem zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

theorem emb7 (t : Fin cfg0.N) (j : S4x131072x4x128.Idx) : ((cfg0.win 7).blk t).view.emb j = j := by
  obtain ⟨e0, e1, e2, e3⟩ := zero7 t
  funext a; apply Fin.ext
  match a with
  | ⟨0, _⟩ => show win0_7.index t (0 : Fin 4) * 4 + 1 * (j 0).val = (j 0).val; omega
  | ⟨1, _⟩ => show win0_7.index t (1 : Fin 4) * 131072 + 1 * (j 1).val = (j 1).val; omega
  | ⟨2, _⟩ => show win0_7.index t (2 : Fin 4) * 4 + 1 * (j 2).val = (j 2).val; omega
  | ⟨3, _⟩ => show win0_7.index t (3 : Fin 4) * 128 + 1 * (j 3).val = (j 3).val; omega

/-- Window 8's one block is its whole array. -/
theorem zero8 : ∀ t : Fin cfg0.N, win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)

theorem emb8 (t : Fin cfg0.N) (j : S4x4x32x128.Idx) : ((cfg0.win 8).blk t).view.emb j = j := by
  obtain ⟨e0, e1, e2, e3⟩ := zero8 t
  funext a; apply Fin.ext
  match a with
  | ⟨0, _⟩ => show win0_8.index t (0 : Fin 4) * 4 + 1 * (j 0).val = (j 0).val; omega
  | ⟨1, _⟩ => show win0_8.index t (1 : Fin 4) * 4 + 1 * (j 1).val = (j 1).val; omega
  | ⟨2, _⟩ => show win0_8.index t (2 : Fin 4) * 32 + 1 * (j 2).val = (j 2).val; omega
  | ⟨3, _⟩ => show win0_8.index t (3 : Fin 4) * 128 + 1 * (j 3).val = (j 3).val; omega

/-- Window 9's one block is its whole array. -/
theorem zero9 : ∀ t : Fin cfg0.N, win0_9.index t (0 : Fin 4) = 0 ∧ win0_9.index t (1 : Fin 4) = 0 ∧ win0_9.index t (2 : Fin 4) = 0 ∧ win0_9.index t (3 : Fin 4) = 0 :=
  (by decide +kernel : ∀ t : Fin grid0.N, _)

theorem emb9 (t : Fin cfg0.N) (j : S4x4x4x128.Idx) : ((cfg0.win 9).blk t).view.emb j = j := by
  obtain ⟨e0, e1, e2, e3⟩ := zero9 t
  funext a; apply Fin.ext
  match a with
  | ⟨0, _⟩ => show win0_9.index t (0 : Fin 4) * 4 + 1 * (j 0).val = (j 0).val; omega
  | ⟨1, _⟩ => show win0_9.index t (1 : Fin 4) * 4 + 1 * (j 1).val = (j 1).val; omega
  | ⟨2, _⟩ => show win0_9.index t (2 : Fin 4) * 4 + 1 * (j 2).val = (j 2).val; omega
  | ⟨3, _⟩ => show win0_9.index t (3 : Fin 4) * 128 + 1 * (j 3).val = (j 3).val; omega

/-- Window 10's one block is its whole array. -/
theorem zero10 : ∀ t : Fin cfg0.N, win0_10.index t (0 : Fin 1) = 0 :=
  (by decide +kernel : ∀ t : Fin grid0.N, _)

theorem emb10 (t : Fin cfg0.N) (j : S4.Idx) : ((cfg0.win 10).blk t).view.emb j = j := by
  have e0 := zero10 t
  funext a; apply Fin.ext
  match a with
  | ⟨0, _⟩ => show win0_10.index t (0 : Fin 1) * 4 + 1 * (j 0).val = (j 0).val; omega

/-- Window 11's one block is its whole array. -/
theorem zero11 : ∀ t : Fin cfg0.N, win0_11.index t (0 : Fin 4) = 0 ∧ win0_11.index t (1 : Fin 4) = 0 ∧ win0_11.index t (2 : Fin 4) = 0 ∧ win0_11.index t (3 : Fin 4) = 0 :=
  (by decide +kernel : ∀ t : Fin grid0.N, _)

theorem emb11 (t : Fin cfg0.N) (j : S4x4x4x128.Idx) : ((cfg0.win 11).blk t).view.emb j = j := by
  obtain ⟨e0, e1, e2, e3⟩ := zero11 t
  funext a; apply Fin.ext
  match a with
  | ⟨0, _⟩ => show win0_11.index t (0 : Fin 4) * 4 + 1 * (j 0).val = (j 0).val; omega
  | ⟨1, _⟩ => show win0_11.index t (1 : Fin 4) * 4 + 1 * (j 1).val = (j 1).val; omega
  | ⟨2, _⟩ => show win0_11.index t (2 : Fin 4) * 4 + 1 * (j 2).val = (j 2).val; omega
  | ⟨3, _⟩ => show win0_11.index t (3 : Fin 4) * 128 + 1 * (j 3).val = (j 3).val; omega

/-- Window 12's one block is its whole array. -/
theorem zero12 : ∀ t : Fin cfg0.N, win0_12.index t (0 : Fin 1) = 0 :=
  (by decide +kernel : ∀ t : Fin grid0.N, _)

theorem emb12 (t : Fin cfg0.N) (j : S4.Idx) : ((cfg0.win 12).blk t).view.emb j = j := by
  have e0 := zero12 t
  funext a; apply Fin.ext
  match a with
  | ⟨0, _⟩ => show win0_12.index t (0 : Fin 1) * 4 + 1 * (j 0).val = (j 0).val; omega

theorem iblk0_eq (c : Dev nD) (t : Fin cfg0.N) : iblk m c 0 t = m ((c : Thread nD τ).loc main_arg5) := by
  funext j; show V m c main_arg5 (((cfg0.win 0).blk t).view.emb j) = V m c main_arg5 j; rw [emb0]

theorem iblk1_eq (c : Dev nD) (t : Fin cfg0.N) : iblk m c 1 t = m ((c : Thread nD τ).loc main_arg6) := by
  funext j; show V m c main_arg6 (((cfg0.win 1).blk t).view.emb j) = V m c main_arg6 j; rw [emb1]

theorem iblk2_eq (c : Dev nD) (t : Fin cfg0.N) : iblk m c 2 t = m ((c : Thread nD τ).loc main_arg7) := by
  funext j; show V m c main_arg7 (((cfg0.win 2).blk t).view.emb j) = V m c main_arg7 j; rw [emb2]

theorem iblk3_eq (c : Dev nD) (t : Fin cfg0.N) : iblk m c 3 t = m ((c : Thread nD τ).loc main_arg0) := by
  funext j; show V m c main_arg0 (((cfg0.win 3).blk t).view.emb j) = V m c main_arg0 j; rw [emb3]

theorem iblk4_eq (c : Dev nD) (t : Fin cfg0.N) : iblk m c 4 t = m ((c : Thread nD τ).loc main_arg1) := by
  funext j; show V m c main_arg1 (((cfg0.win 4).blk t).view.emb j) = V m c main_arg1 j; rw [emb4]

theorem iblk5_eq (c : Dev nD) (t : Fin cfg0.N) : iblk m c 5 t = m ((c : Thread nD τ).loc main_arg2) := by
  funext j; show V m c main_arg2 (((cfg0.win 5).blk t).view.emb j) = V m c main_arg2 j; rw [emb5]

theorem iblk6_eq (c : Dev nD) (t : Fin cfg0.N) : iblk m c 6 t = m ((c : Thread nD τ).loc main_arg3) := by
  funext j; show V m c main_arg3 (((cfg0.win 6).blk t).view.emb j) = V m c main_arg3 j; rw [emb6]

theorem iblk7_eq (c : Dev nD) (t : Fin cfg0.N) : iblk m c 7 t = m ((c : Thread nD τ).loc main_arg4) := by
  funext j; show V m c main_arg4 (((cfg0.win 7).blk t).view.emb j) = V m c main_arg4 j; rw [emb7]

theorem cut8_eq (t : Fin cfg0.N) (X : Vec Ideal S4x4x32x128 .bf16) : (cfg0.win 8).cut (grid0.coords t) X = ((cfg0.win 8).blk t).view.read (Elt Ideal) X := by
  funext j
  show X j = X (((cfg0.win 8).blk t).view.emb j)
  rw [emb8]

theorem covered8 (i : S4x4x32x128.Idx) : ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩

theorem cut9_eq (t : Fin cfg0.N) (X : Vec Ideal S4x4x4x128 .fp8e4m3) : (cfg0.win 9).cut (grid0.coords t) X = ((cfg0.win 9).blk t).view.read (Elt Ideal) X := by
  funext j
  show X j = X (((cfg0.win 9).blk t).view.emb j)
  rw [emb9]

theorem covered9 (i : S4x4x4x128.Idx) : ∃ t : Fin cfg0.N, (cfg0.win 9).flush t = true ∧ i ∈ ((cfg0.win 9).blk t).view.set :=
  ⟨(⟨0, by decide⟩ : Fin cfg0.N), flush0_9 _, by
    have h := ((cfg0.win 9).blk (⟨0, by decide⟩ : Fin cfg0.N)).view.emb_mem_set i; rwa [emb9] at h⟩

theorem cut10_eq (t : Fin cfg0.N) (X : Vec Ideal S4 .f32) : (cfg0.win 10).cut (grid0.coords t) X = ((cfg0.win 10).blk t).view.read (Elt Ideal) X := by
  funext j
  show X j = X (((cfg0.win 10).blk t).view.emb j)
  rw [emb10]

theorem covered10 (i : S4.Idx) : ∃ t : Fin cfg0.N, (cfg0.win 10).flush t = true ∧ i ∈ ((cfg0.win 10).blk t).view.set :=
  ⟨(⟨0, by decide⟩ : Fin cfg0.N), flush0_10 _, by
    have h := ((cfg0.win 10).blk (⟨0, by decide⟩ : Fin cfg0.N)).view.emb_mem_set i; rwa [emb10] at h⟩

theorem cut11_eq (t : Fin cfg0.N) (X : Vec Ideal S4x4x4x128 .fp8e4m3) : (cfg0.win 11).cut (grid0.coords t) X = ((cfg0.win 11).blk t).view.read (Elt Ideal) X := by
  funext j
  show X j = X (((cfg0.win 11).blk t).view.emb j)
  rw [emb11]

theorem covered11 (i : S4x4x4x128.Idx) : ∃ t : Fin cfg0.N, (cfg0.win 11).flush t = true ∧ i ∈ ((cfg0.win 11).blk t).view.set :=
  ⟨(⟨0, by decide⟩ : Fin cfg0.N), flush0_11 _, by
    have h := ((cfg0.win 11).blk (⟨0, by decide⟩ : Fin cfg0.N)).view.emb_mem_set i; rwa [emb11] at h⟩

theorem cut12_eq (t : Fin cfg0.N) (X : Vec Ideal S4 .f32) : (cfg0.win 12).cut (grid0.coords t) X = ((cfg0.win 12).blk t).view.read (Elt Ideal) X := by
  funext j
  show X j = X (((cfg0.win 12).blk t).view.emb j)
  rw [emb12]

theorem covered12 (i : S4.Idx) : ∃ t : Fin cfg0.N, (cfg0.win 12).flush t = true ∧ i ∈ ((cfg0.win 12).blk t).view.set :=
  ⟨(⟨0, by decide⟩ : Fin cfg0.N), flush0_12 _, by
    have h := ((cfg0.win 12).blk (⟨0, by decide⟩ : Fin cfg0.N)).view.emb_mem_set i; rwa [emb12] at h⟩

/-- The reference's attention array. -/
theorem final8 (c : Dev nD) (hl : ∀ b : Fin 4, InLen (m ((c : Thread nD τ).loc main_arg5) (ix1 b))) : (dats m 0 c).arrAt 8 cfg0.N
    = fun y => att (fun b => m ((c : Thread nD τ).loc main_arg5) (ix1 b)) (fun h => m ((c : Thread nD τ).loc main_arg6) (ix1 h)) (fun h => m ((c : Thread nD τ).loc main_arg7) (ix1 h))
        (fun b s r d => m ((c : Thread nD τ).loc main_arg0) (ix4 b s r d)) (fun b s h d => m ((c : Thread nD τ).loc main_arg1) (ix4 b s h d)) (fun b s h d => m ((c : Thread nD τ).loc main_arg2) (ix4 b s h d))
        (fun b t h d => m ((c : Thread nD τ).loc main_arg3) (ix4 b t h d)) (fun b t h d => m ((c : Thread nD τ).loc main_arg4) (ix4 b t h d)) (y 0) (y 1) (y 2) (y 3) :=
  (dats m 0 c).arrAt_eq_of_cover 8 _ (fun t _ => by
    rw [flushed8_A, iblk0_eq, iblk1_eq, iblk2_eq, iblk3_eq, iblk4_eq, iblk5_eq, iblk6_eq, iblk7_eq, out8_eq _ _ _ _ _ _ _ _ _ _ _ _ _ _ _ _ _ _ _ _ _ _ _ _ _ _ _ _ _ _ _ _ _ _ _ hl]
    exact cut8_eq t _) covered8

/-- The reference's key codes. -/
theorem final9 (c : Dev nD) : (dats m 0 c).arrAt 9 cfg0.N
    = fun y => code (m ((c : Thread nD τ).loc main_arg6) (ix1 (y 2))) (m ((c : Thread nD τ).loc main_arg1) (ix4 (y 0) (y 1) (y 2) (y 3))) :=
  (dats m 0 c).arrAt_eq_of_cover 9 _ (fun t _ => by
    rw [flushed9_A, iblk0_eq, iblk1_eq, iblk2_eq, iblk3_eq, iblk4_eq, iblk5_eq, iblk6_eq, iblk7_eq, out9_eq]
    exact cut9_eq t _) covered9

/-- The reference's value codes. -/
theorem final11 (c : Dev nD) : (dats m 0 c).arrAt 11 cfg0.N
    = fun y => code (m ((c : Thread nD τ).loc main_arg7) (ix1 (y 2))) (m ((c : Thread nD τ).loc main_arg2) (ix4 (y 0) (y 1) (y 2) (y 3))) :=
  (dats m 0 c).arrAt_eq_of_cover 11 _ (fun t _ => by
    rw [flushed11_A, iblk0_eq, iblk1_eq, iblk2_eq, iblk3_eq, iblk4_eq, iblk5_eq, iblk6_eq, iblk7_eq, out11_eq]
    exact cut11_eq t _) covered11

/-- The reference's key scales. -/
theorem final10 (c : Dev nD) : (dats m 0 c).arrAt 10 cfg0.N = fun y => ((two (m ((c : Thread nD τ).loc main_arg6) (ix1 (y 0))) : ℝ) : EReal) :=
  (dats m 0 c).arrAt_eq_of_cover 10 _ (fun t _ => by
    rw [flushed10_A, iblk0_eq, iblk1_eq, iblk2_eq, iblk3_eq, iblk4_eq, iblk5_eq, iblk6_eq, iblk7_eq, out10_eq]
    exact cut10_eq t _) covered10

/-- The reference's value scales. -/
theorem final12 (c : Dev nD) : (dats m 0 c).arrAt 12 cfg0.N = fun y => ((two (m ((c : Thread nD τ).loc main_arg7) (ix1 (y 0))) : ℝ) : EReal) :=
  (dats m 0 c).arrAt_eq_of_cover 12 _ (fun t _ => by
    rw [flushed12_A, iblk0_eq, iblk1_eq, iblk2_eq, iblk3_eq, iblk4_eq, iblk5_eq, iblk6_eq, iblk7_eq, out12_eq]
    exact cut12_eq t _) covered12

end Cert.ReferenceIdeal.Run

end
-- ==== Proof.Val.Pre.lean ====
/- The precondition read back: what `in_range` says of the argument words. -/
module

public import proofs.«01_k».proof.Pre_in_range
public import proofs.«01_k».proof.Proof.Gen.Pre_in_range
public import proofs.«01_k».proof.Proof.Ref.Ops
public import proofs.«01_k».proof.Proof.Val.Scal
public import Idealize.ShloMosaic.Lib.ReduceAll
public import Idealize.ShloMosaic.Lib.WordCmp
public import Idealize.ShloMosaic.Lib.Pointwise

@[expose] public section

set_option maxRecDepth 16384

noncomputable section

namespace Cert.Pre_in_range

open Idealize.ShloMosaic Cert.Pre_in_range.Facts
open Cert.KernelIdeal.Blk (InExp)
open Cert.ReferenceIdeal.Run (InLen)

theorem sge_one {x c : BitVec 32} (h : IntOp.cmpi .sge x c = 1#1) : c.toInt ≤ x.toInt := by
  change BitVec.ofBool (decide (c.toInt ≤ x.toInt)) = 1#1 at h
  by_contra hn
  rw [decide_eq_false hn] at h
  exact absurd h (by decide)

theorem sle_one {x c : BitVec 32} (h : IntOp.cmpi .sle x c = 1#1) : x.toInt ≤ c.toInt := by
  change BitVec.ofBool (decide (x.toInt ≤ c.toInt)) = 1#1 at h
  by_contra hn
  rw [decide_eq_false hn] at h
  exact absurd h (by decide)

instance : Subsingleton S_.Idx := ⟨fun a b => funext fun i => i.elim0⟩

/-- The eight exponents: the keys' four, then the values'. -/
theorem cat_apply (a b : IVec S4 32) (hc : Shape.Concatenates [S4, S4] S8 0) (i : Fin 8) :
    concatenate S8 0 [⟨S4, a⟩, ⟨S4, b⟩] hc (ix1 i) = if h : (i : ℕ) < 4 then a (ix1 ⟨i, h⟩) else b (ix1 ⟨i - 4, by omega⟩) := by
  pointwise []

/-- WHAT THE PRECONDITION SAYS: every cache length is from 1024 to 131072 and every exponent from −126 to 126. -/
theorem words_of [Facts] (x0 : FVec Ideal S4x4x32x128 .bf16) (x1 x2 : FVec Ideal S4x4x4x128 .bf16) (x3 x4 : FVec Ideal S4x131072x4x128 .fp8e4m3) (x5 x6 x7 : IVec S4 32)
    (h : fn (F := Ideal) x0 x1 x2 x3 x4 x5 x6 x7 = fun _ => 1#1) :
    (∀ b : Fin 4, InLen (x5 (ix1 b))) ∧ (∀ b : Fin 4, InExp (x6 (ix1 b))) ∧ ∀ b : Fin 4, InExp (x7 (ix1 b)) := by
  have e := congrFun h ix0
  obtain ⟨e, e4⟩ := IntOp.andi_eq_one.1 e
  obtain ⟨e, e3⟩ := IntOp.andi_eq_one.1 e
  obtain ⟨e1, e2⟩ := IntOp.andi_eq_one.1 e
  have h1 := Host.reduce_andi_all _ _ _ _ _ e1
  have h2 := Host.reduce_andi_all _ _ _ _ _ e2
  have h3 := Host.reduce_andi_all _ _ _ _ _ e3
  have h4 := Host.reduce_andi_all _ _ _ _ _ e4
  have g (i : Fin 8) : InExp (concatenate S8 0 [⟨S4, x6⟩, ⟨S4, x7⟩] concatenates_S4_S4_S8_d0 (ix1 i)) := ⟨sge_one (h3 (ix1 i)), sle_one (h4 (ix1 i))⟩
  refine ⟨fun b => ⟨sge_one (h1 (ix1 b)), sle_one (h2 (ix1 b))⟩, fun b => ?_, fun b => ?_⟩
  · have := g ⟨b, by omega⟩
    rw [cat_apply, dif_pos (show (b : ℕ) < 4 from b.isLt)] at this
    exact this
  · have := g ⟨4 + b, by omega⟩
    rw [cat_apply, dif_neg (show ¬ (4 + (b : ℕ) < 4) by omega)] at this
    have e : (⟨4 + (b : ℕ) - 4, by omega⟩ : Fin 4) = b := Fin.ext (by simp only; omega)
    rwa [e] at this

end Cert.Pre_in_range

end
-- ==== Proof.lean ====
module

public import proofs.«01_k».proof.Defs
public import proofs.«01_k».proof.Proof.KFrame.Frame
public import proofs.«01_k».proof.Proof.Gen.ReferenceIdeal.Value
public import proofs.«01_k».proof.Proof.Gen.Pre_in_range
public import proofs.«01_k».proof.Proof.Run.Value
public import proofs.«01_k».proof.Proof.Val.Final
public import proofs.«01_k».proof.Proof.Ref.Final
public import proofs.«01_k».proof.Proof.Val.Pre

@[expose] public section

noncomputable section

namespace Cert.Proof

open Idealize.ShloMosaic Idealize.SL.Sem

/-- The kernel's `log2(e)` constant is the reciprocal of the natural logarithm of 2. -/
theorem preserves : Cert.preserves_Kernel_KernelIdeal :=
  IdealRules.named_const.statement Cert.KernelIdeal.κ "log2_e" .f32 0x3FB8AA3B#32 (((Real.log 2)⁻¹ : ℝ) : EReal) rfl

/-- The five results agree: both programs' arrays are the same functions of the arguments. -/
theorem algebraic : Cert.algebraic_KernelIdeal_ReferenceIdeal_pre_in_range := by
  intro m ρ m' ρ' hpre hagree
  refine ⟨fun c => Cert.KernelIdeal.Run.attOf m c, fun c => Cert.KernelIdeal.Run.kCodes m c, fun c => Cert.KernelIdeal.Run.kScales m c,
    fun c => Cert.KernelIdeal.Run.vCodes m c, fun c => Cert.KernelIdeal.Run.vScales m c, ?_, ?_⟩
  · refine (θ_run _ _ _).mono (fun r h c => ?_) (Cert.KernelIdeal.Run.run_blocks m ρ)
    obtain ⟨hl, hk, hv⟩ := Cert.Pre_in_range.words_of _ _ _ _ _ _ _ _ (hpre c)
    obtain ⟨h0, h1, h2, h3, h4, hr⟩ := h c
    exact ⟨h0.trans (Cert.KernelIdeal.Run.final3 m c hk hv), h1.trans (Cert.KernelIdeal.Run.final4 m c hk), h2.trans (Cert.KernelIdeal.Run.final5 m c hk),
      h3.trans (Cert.KernelIdeal.Run.final6 m c hv), h4.trans (Cert.KernelIdeal.Run.final7 m c hv), hr⟩
  · refine (θ_run _ _ _).mono (fun r h c => ?_) (Cert.ReferenceIdeal.Value.run_blocks m' ρ')
    obtain ⟨hl, hk, hv⟩ := Cert.Pre_in_range.words_of _ _ _ _ _ _ _ _ (hpre c)
    obtain ⟨a0, a1, a2, a3, a4, a5, a6, a7⟩ := hagree c
    obtain ⟨h0, h1, h2, h3, h4, hr⟩ := h c
    refine ⟨h0.trans ?_, h1.trans ?_, h2.trans ?_, h3.trans ?_, h4.trans ?_, hr⟩
    · rw [Cert.ReferenceIdeal.Run.final8 m' c (by rw [a5]; exact hl), a0, a1, a2, a3, a4, a5, a6, a7]; rfl
    · rw [Cert.ReferenceIdeal.Run.final9 m' c, a1, a6]; rfl
    · rw [Cert.ReferenceIdeal.Run.final10 m' c, a6]; rfl
    · rw [Cert.ReferenceIdeal.Run.final11 m' c, a2, a7]; rfl
    · rw [Cert.ReferenceIdeal.Run.final12 m' c, a7]; rfl

theorem claim : Cert.Claim :=
  ⟨Cert.Kernel.Gen.facts, Cert.KernelIdeal.Gen.facts, Cert.ReferenceIdeal.Gen.facts, Cert.Pre_in_range.Gen.facts,
    fun m ρ _ => Cert.Kernel.Run.frame m ρ, fun m ρ _ => Cert.KernelIdeal.Run.frame m ρ, fun m ρ _ => Cert.KernelIdeal.Run.frame m ρ,
    fun m ρ _ => Cert.ReferenceIdeal.Gen.frame m ρ, fun m ρ _ => Cert.ReferenceIdeal.Gen.frame m ρ, preserves, algebraic⟩

end Cert.Proof

end
